-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_named [hPre_finite_and_named : Cert.Pre_finite_and_named.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_and_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_named [hPre_finite_and_named : Cert.Pre_finite_and_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_and_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_named [hKernelIdeal : Cert.KernelIdeal.Facts] [hPre_finite_and_named : Cert.Pre_finite_and_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_named m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_named [hReferenceIdeal : Cert.ReferenceIdeal.Facts] [hPre_finite_and_named : Cert.Pre_finite_and_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_named [hKernelIdeal : Cert.KernelIdeal.Facts] [hReferenceIdeal : Cert.ReferenceIdeal.Facts] [hPre_finite_and_named : Cert.Pre_finite_and_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_named m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_named : Cert.Pre_finite_and_named.Facts),
    quiescent_Kernel (hKernel := hKernel)
    ∧ quiescent_KernelIdeal (hKernelIdeal := hKernelIdeal)
    ∧ quiescent_KernelIdeal_pre_finite_and_named (hKernelIdeal := hKernelIdeal) (hPre_finite_and_named := hPre_finite_and_named)
    ∧ quiescent_ReferenceIdeal (hReferenceIdeal := hReferenceIdeal)
    ∧ quiescent_ReferenceIdeal_pre_finite_and_named (hReferenceIdeal := hReferenceIdeal) (hPre_finite_and_named := hPre_finite_and_named)
    ∧ preserves_Kernel_KernelIdeal
    ∧ algebraic_KernelIdeal_ReferenceIdeal_pre_finite_and_named (hKernelIdeal := hKernelIdeal) (hReferenceIdeal := hReferenceIdeal) (hPre_finite_and_named := hPre_finite_and_named)
-- ==== Pre_finite_and_named.lean ====
abbrev S4x2048x2048 : Shape := ⟨3, ![4, 2048, 2048]⟩
abbrev S4x2048 : Shape := ⟨2, ![4, 2048]⟩
abbrev S1000x2048 : Shape := ⟨2, ![1000, 2048]⟩
abbrev S1000 : Shape := ⟨1, ![1000]⟩
abbrev S_ : Shape := ⟨0, ![]⟩

class Facts : Prop where
  bcast_S_S4x2048x2048 : S_.BroadcastsInDim S4x2048x2048 (![] : Fin 0 → Fin S4x2048x2048.rank)
  bcast_S_S4x2048 : S_.BroadcastsInDim S4x2048 (![] : Fin 0 → Fin S4x2048.rank)
  bcast_S_S1000x2048 : S_.BroadcastsInDim S1000x2048 (![] : Fin 0 → Fin S1000x2048.rank)
  bcast_S_S1000 : S_.BroadcastsInDim S1000 (![] : Fin 0 → Fin S1000.rank)

variable [Facts]

def fn {F : FTy → Type} [FloatOps F] (main_arg0 : FVec F S4x2048x2048 .f32) (main_arg1 : IVec S4x2048 32) (main_arg2 : IVec S4x2048 1) (main_arg3 : FVec F S1000x2048 .f32) (main_arg4 : FVec F S1000 .f32) : IVec S4x2048x2048 1 × IVec S4x2048 1 × IVec S1000x2048 1 × IVec S1000 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : IVec S4x2048 1 := noti main_arg2
  let main_c : IVec S_ 32 := constantI S_ 32 0#32
  let main_v4 : IVec S4x2048 32 := broadcastInDim S4x2048 ![] bcast_S_S4x2048 main_c
  let main_v5 : IVec S4x2048 1 := cmpi .sge main_arg1 main_v4
  let main_c_0 : IVec S_ 32 := constantI S_ 32 1000#32
  let main_v6 : IVec S4x2048 32 := broadcastInDim S4x2048 ![] bcast_S_S4x2048 main_c_0
  let main_v7 : IVec S4x2048 1 := cmpi .slt main_arg1 main_v6
  let main_v8 : IVec S4x2048 1 := andi main_v5 main_v7
  let main_v9 : IVec S4x2048 1 := ori main_v3 main_v8
  let main_v10 : FVec F S1000x2048 .f32 := Host.absf main_arg3
  let main_cst_1 : FVec F S_ .f32 := constant S_ .f32 0x7F800000#32
  let main_v11 : FVec F S1000x2048 .f32 := broadcastInDim S1000x2048 ![] bcast_S_S1000x2048 main_cst_1
  let main_v12 : IVec S1000x2048 1 := cmpf .olt main_v10 main_v11
  let main_v13 : FVec F S1000 .f32 := Host.absf main_arg4
  let main_cst_2 : FVec F S_ .f32 := constant S_ .f32 0x7F800000#32
  let main_v14 : FVec F S1000 .f32 := broadcastInDim S1000 ![] bcast_S_S1000 main_cst_2
  let main_v15 : IVec S1000 1 := cmpf .olt main_v13 main_v14
  (main_v2, main_v9, main_v12, main_v15)
-- ==== Kernel.lean ====
abbrev S4x2048x2048 : Shape := ⟨3, ![4, 2048, 2048]⟩
abbrev S4x2048 : Shape := ⟨2, ![4, 2048]⟩
abbrev S1000x2048 : Shape := ⟨2, ![1000, 2048]⟩
abbrev S1000 : Shape := ⟨1, ![1000]⟩
abbrev S1x1000 : Shape := ⟨2, ![1, 1000]⟩
abbrev S4x1000x2048 : Shape := ⟨3, ![4, 1000, 2048]⟩
abbrev S1x1 : Shape := ⟨2, ![1, 1]⟩
abbrev S1x512x2048 : Shape := ⟨3, ![1, 512, 2048]⟩
abbrev S1x1000x1024 : Shape := ⟨3, ![1, 1000, 1024]⟩
abbrev S2 : Shape := ⟨1, ![2]⟩
abbrev S1 : Shape := ⟨1, ![1]⟩
abbrev S1000x1 : Shape := ⟨2, ![1000, 1]⟩
abbrev S512x2048 : Shape := ⟨2, ![512, 2048]⟩
abbrev S1000x512 : Shape := ⟨2, ![1000, 512]⟩
abbrev S1x1000x512 : Shape := ⟨3, ![1, 1000, 512]⟩
abbrev S512 : Shape := ⟨1, ![512]⟩
abbrev S1x512 : Shape := ⟨2, ![1, 512]⟩
abbrev S1x1x512 : Shape := ⟨3, ![1, 1, 512]⟩
abbrev S1x1x1 : Shape := ⟨3, ![1, 1, 1]⟩
abbrev S4x2048x1000 : Shape := ⟨3, ![4, 2048, 1000]⟩
abbrev S_ : Shape := ⟨0, ![]⟩

abbrev nBuf : Space → Nat
  | .hbm => 13
  | .vmem => 14
  | .smem => 1
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S4x2048, .i1⟩
  | .hbm, ⟨3, _⟩ => ⟨S1000x2048, .f32⟩
  | .hbm, ⟨4, _⟩ => ⟨S1000, .f32⟩
  | .hbm, ⟨5, _⟩ => ⟨S1x1000, .f32⟩
  | .hbm, ⟨6, _⟩ => ⟨S4x2048, .i32⟩
  | .hbm, ⟨7, _⟩ => ⟨S4x1000x2048, .f32⟩
  | .hbm, ⟨8, _⟩ => ⟨S4x1000x2048, .f32⟩
  | .hbm, ⟨9, _⟩ => ⟨S1x1, .f32⟩
  | .hbm, ⟨10, _⟩ => ⟨S4x2048x1000, .f32⟩
  | .hbm, ⟨11, _⟩ => ⟨S4x2048x1000, .f32⟩
  | .hbm, ⟨12, _⟩ => ⟨S_, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1000x2048, .f32⟩
  | .local _ .vmem, ⟨5, _⟩ => ⟨S1x1000, .f32⟩
  | .local _ .vmem, ⟨6, _⟩ => ⟨S4x2048, .i32⟩
  | .local _ .vmem, ⟨7, _⟩ => ⟨S4x2048, .i32⟩
  | .local _ .vmem, ⟨8, _⟩ => ⟨S1x1000x1024, .f32⟩
  | .local _ .vmem, ⟨9, _⟩ => ⟨S1x1000x1024, .f32⟩
  | .local _ .vmem, ⟨10, _⟩ => ⟨S1x1000x1024, .f32⟩
  | .local _ .vmem, ⟨11, _⟩ => ⟨S1x1000x1024, .f32⟩
  | .local _ .vmem, ⟨12, _⟩ => ⟨S1x1, .f32⟩
  | .local _ .vmem, ⟨13, _⟩ => ⟨S1000x2048, .bf16⟩
  | .local _ .smem, ⟨0, _⟩ => ⟨S2, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch1 : Ref sig .tc := ⟨.vmem, 13, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨2, ![4, 2], ![false, false]⟩

def k0_off1 (i : grid0.Coords) (c0_i32_17 : BitVec 32) : Fin 2 → Nat :=
  let arg0 : BitVec 32 := BitVec.ofNat 32 (i 0).val
  let v34 : Index := Scalar.indexCast arg0
  let arg1 : BitVec 32 := BitVec.ofNat 32 (i 1).val
  let c1024_i32 : BitVec 32 := 1024#32
  let v32 : BitVec 32 := Scalar.muli arg1 c1024_i32
  let v33 : BitVec 32 := Scalar.addi v32 c0_i32_17
  let v35 : Index := Scalar.indexCast v33
  ![v34.toNat, v35.toNat]
def k0_cond2 (i : grid0.Coords) : BitVec 1 :=
  let arg0 : BitVec 32 := BitVec.ofNat 32 (i 0).val
  let c3_i32 : BitVec 32 := 3#32
  let v142 : BitVec 1 := Scalar.cmpi .eq arg0 c3_i32
  let arg1 : BitVec 32 := BitVec.ofNat 32 (i 1).val
  let c1_i32 : BitVec 32 := 1#32
  let v143 : BitVec 1 := Scalar.cmpi .eq arg1 c1_i32
  let v144 : BitVec 1 := Scalar.andi v142 v143
  let v145 : BitVec 32 := Scalar.extui v144
  let c0_i32_56 : BitVec 32 := 0#32
  let v146 : BitVec 1 := Scalar.cmpi .ne v145 c0_i32_56
  v146

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1000x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1000x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1000x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4x2048x2048 : Shape := ⟨3, ![4, 2048, 2048]⟩
abbrev S4x2048 : Shape := ⟨2, ![4, 2048]⟩
abbrev S1000x2048 : Shape := ⟨2, ![1000, 2048]⟩
abbrev S1000 : Shape := ⟨1, ![1000]⟩
abbrev S4x2048x1000 : Shape := ⟨3, ![4, 2048, 1000]⟩
abbrev S1x1x1000 : Shape := ⟨3, ![1, 1, 1000]⟩
abbrev S_ : Shape := ⟨0, ![]⟩
abbrev S4x2048x1 : Shape := ⟨3, ![4, 2048, 1]⟩
abbrev S8192x1000 : Shape := ⟨2, ![8192, 1000]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048, .i32⟩
  | .hbm, ⟨2, _⟩ => ⟨S4x2048, .i1⟩
  | .hbm, ⟨3, _⟩ => ⟨S1000x2048, .f32⟩
  | .hbm, ⟨4, _⟩ => ⟨S1000, .f32⟩
  | .hbm, ⟨5, _⟩ => ⟨S4x2048x1000, .f32⟩
  | .hbm, ⟨6, _⟩ => ⟨S1x1x1000, .f32⟩
  | .hbm, ⟨7, _⟩ => ⟨S4x2048x1000, .f32⟩
  | .hbm, ⟨8, _⟩ => ⟨S4x2048x1000, .f32⟩
  | .hbm, ⟨9, _⟩ => ⟨S_, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048x1, .f32⟩
  | .hbm, ⟨15, _⟩ => ⟨S4x2048x1000, .f32⟩
  | .hbm, ⟨16, _⟩ => ⟨S4x2048x1000, .f32⟩
  | .hbm, ⟨17, _⟩ => ⟨S4x2048x1000, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S4x2048x1000, .f32⟩
  | .hbm, ⟨22, _⟩ => ⟨S4x2048x1000, .f32⟩
  | .hbm, ⟨23, _⟩ => ⟨S_, .i32⟩
  | .hbm, ⟨24, _⟩ => ⟨S_, .i32⟩
  | .hbm, ⟨25, _⟩ => ⟨S4x2048, .i32⟩
  | .hbm, ⟨26, _⟩ => ⟨S4x2048, .i32⟩
  | .hbm, ⟨27, _⟩ => ⟨S8192x1000, .f32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x1000, .f32⟩
  | .hbm, ⟨43, _⟩ => ⟨S8192x1000, .f32⟩
  | .hbm, ⟨44, _⟩ => ⟨S8192x1000, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S8192x1000, .f32⟩
  | .hbm, ⟨50, _⟩ => ⟨S8192x1000, .f32⟩
  | .hbm, ⟨51, _⟩ => ⟨S8192x1, .i32⟩
  | .hbm, ⟨52, _⟩ => ⟨S_, .i32⟩
  | .hbm, ⟨53, _⟩ => ⟨S8192x1, .i32⟩
  | .hbm, ⟨54, _⟩ => ⟨S8192x1, .i1⟩
  | .hbm, ⟨55, _⟩ => ⟨S_, .i32⟩
  | .hbm, ⟨56, _⟩ => ⟨S8192x1, .i32⟩
  | .hbm, ⟨57, _⟩ => ⟨S8192x1, .i32⟩
  | .hbm, ⟨58, _⟩ => ⟨S8192x1, .i32⟩
  | .hbm, ⟨59, _⟩ => ⟨S8192x1x1, .i32⟩
  | .hbm, ⟨60, _⟩ => ⟨S1, .i32⟩
  | .hbm, ⟨61, _⟩ => ⟨S_, .i32⟩
  | .hbm, ⟨62, _⟩ => ⟨S8192x1x1, .i32⟩
  | .hbm, ⟨63, _⟩ => ⟨S8192x1x1, .i1⟩
  | .hbm, ⟨64, _⟩ => ⟨S1x1x1, .i32⟩
  | .hbm, ⟨65, _⟩ => ⟨S8192x1x1, .i32⟩
  | .hbm, ⟨66, _⟩ => ⟨S8192x1x1, .i1⟩
  | .hbm, ⟨67, _⟩ => ⟨S8192x1x1, .i1⟩
  | .hbm, ⟨68, _⟩ => ⟨S_, .i1⟩
  | .hbm, ⟨69, _⟩ => ⟨S8192x1, .i1⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_call2_cst : Ref sig .tc := ⟨.hbm, 36, rfl⟩
abbrev main_call2_v0 : Ref sig .tc := ⟨.hbm, 37, rfl⟩
abbrev main_call2_cst_0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_cst_1 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_v21 : Ref sig .tc := ⟨.hbm, 50, rfl⟩
abbrev main_v22 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_cst : Ref sig .tc := ⟨.hbm, 71, rfl⟩
abbrev main_call3_v14 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_4 : Ref sig .tc := ⟨.hbm, 76, rfl⟩
abbrev main_call4_v0 : Ref sig .tc := ⟨.hbm, 77, rfl⟩
abbrev main_call4_v1 : Ref sig .tc := ⟨.hbm, 78, rfl⟩
abbrev main_v26 : Ref sig .tc := ⟨.hbm, 79, rfl⟩
abbrev main_cst_5 : Ref sig .tc := ⟨.hbm, 80, rfl⟩
abbrev main_v27 : Ref sig .tc := ⟨.hbm, 81, rfl⟩
abbrev main_v28 : Ref sig .tc := ⟨.hbm, 82, rfl⟩
abbrev main_cst_6 : Ref sig .tc := ⟨.hbm, 83, rfl⟩
abbrev main_v29 : Ref sig .tc := ⟨.hbm, 84, rfl⟩
abbrev main_cst_7 : Ref sig .tc := ⟨.hbm, 85, rfl⟩
abbrev main_v30 : Ref sig .tc := ⟨.hbm, 86, rfl⟩
abbrev main_v31 : Ref sig .tc := ⟨.hbm, 87, rfl⟩

abbrev nD : Nat := 1
abbrev τ : Topo := Topo.v7x

variable {F : FTy → Type} [FloatOps F]
-- ==== Proof.Pieces.lean ====
/-
  What one grid point's body leaves in each buffer, read off the stores the generated run found: the two output blocks as
  the two stores of their column halves, the two accumulator cells, the kept weights and (last point) the stored quotient.
-/
module

public import proofs.«01_k».proof.Proof.Gen.KernelIdeal.Frame
public import Idealize.ShloMosaic.Lib.Pipeline.Value
public import Idealize.ShloMosaic.Lib.Tactic
public import Idealize.ShloMosaic.Lib.Pointwise.Index

@[expose] public section

set_option maxRecDepth 16384

noncomputable section

open Idealize.ShloMosaic Idealize.ShloMosaic.TcCoe Idealize.SL.Sem

namespace Cert.KernelIdeal.Val

open Cert.KernelIdeal Cert.KernelIdeal.Gen

variable {F : FTy → Type} [FloatOps F]

/-- The stretch of 512 entries of a [4,2048] table a half block reads: row `i 0`, from column `1024 * i 1 + 512 * h`. -/
def row (X : Vec F S4x2048 .i32) (i : grid0.Coords) (h : Fin 2) : Vec F S1x512 .i32 := fun j =>
  X (ix2 ⟨(i 0).val, (i 0).isLt⟩ ⟨1024 * (i 1).val + 512 * h.val + (j 1).val, by
    have h1 : (i 1).val < 2 := (i 1).isLt
    have h2 : (j 1).val < 512 := (j 1).isLt
    have := h.isLt
    omega⟩)

/-- The two column halves of a [1,1000,1024] block put side by side. -/
def halves (lo hi : Vec F S1x1000x512 .f32) : Vec F S1x1000x1024 .f32 :=
  View.canon (Val := Elt F) [⟨Rect.unit ![0, 0, 512] S1x1000x512.size inb_S1x1000x1024_S1x1000x512_0_0_512, hi⟩,
    ⟨Rect.unit ![0, 0, 0] S1x1000x512.size inb_S1x1000x1024_S1x1000x512_0_0_0, lo⟩]

/-- The two accumulator cells as a two-entry vector. -/
def pair (a b : Elt F .f32) : Vec F S2 .f32 := fun j => if (j 0).val = 0 then a else b

/-- One half block's update of the loss accumulator `acc`: from the bias `b`, the positions `x`, the weights `w`, the
    target words `t` and the mask words `k`. -/
abbrev lossHalf (b : Vec F S1x1000 .f32) (x : Vec F S1x512x2048 .f32) (w : Vec F S1000x2048 .bf16) (t k : Vec F S1x512 .i32)
    (acc : Elt F .f32) : Elt F .f32 :=
  k0_pay14 (k0_pay7 b x w) (k0_pay9 b x w) (k0_pay11 b x w) t k acc

/-- One grid point's update of the loss accumulator: first half, then second. -/
abbrev lossStep (i : grid0.Coords) (b : Vec F S1x1000 .f32) (x0 x1 : Vec F S1x512x2048 .f32) (w : Vec F S1000x2048 .bf16)
    (T M : Vec F S4x2048 .i32) (acc : Elt F .f32) : Elt F .f32 :=
  lossHalf b x1 w (row T i 1) (row M i 1) (lossHalf b x0 w (row T i 0) (row M i 0) acc)

/-- One grid point's update of the position count: first half, then second. -/
abbrev cntStep (i : grid0.Coords) (M : Vec F S4x2048 .i32) (acc : Elt F .f32) : Elt F .f32 :=
  k0_pay15 (row M i 1) (k0_pay15 (row M i 0) acc)

theorem ld_row0 (X : Vec F S4x2048 .i32) (i : grid0.Coords) (inb : ∀ a, (k0_off1 i 0#32) a + S1x512.size a ≤ S4x2048.size a) :
    View.ld X (Rect.unit (s := S4x2048) (k0_off1 i 0#32) S1x512.size inb) = row X i 0 := by
  funext j
  have e := k0_off1_eq i 0
  unfold row
  refine congrArg X (funext fun a => Fin.ext ?_)
  have h0 : (j 0).val < 1 := (j 0).isLt
  match a with
  | ⟨0, _⟩ => show k0_off1 i 0#32 0 + 1 * (j 0).val = (i 0).val
              rw [show k0_off1 i 0#32 0 = (i 0).val from congrFun e 0]; omega
  | ⟨1, _⟩ => show k0_off1 i 0#32 1 + 1 * (j 1).val = 1024 * (i 1).val + 512 * 0 + (j 1).val
              rw [show k0_off1 i 0#32 1 = 1024 * (i 1).val + 512 * 0 from congrFun e 1]; omega

theorem ld_row1 (X : Vec F S4x2048 .i32) (i : grid0.Coords) (inb : ∀ a, (k0_off1 i 512#32) a + S1x512.size a ≤ S4x2048.size a) :
    View.ld X (Rect.unit (s := S4x2048) (k0_off1 i 512#32) S1x512.size inb) = row X i 1 := by
  funext j
  have e := k0_off1_eq i 1
  unfold row
  refine congrArg X (funext fun a => Fin.ext ?_)
  have h0 : (j 0).val < 1 := (j 0).isLt
  match a with
  | ⟨0, _⟩ => show k0_off1 i 512#32 0 + 1 * (j 0).val = (i 0).val
              rw [show k0_off1 i 512#32 0 = (i 0).val from congrFun e 0]; omega
  | ⟨1, _⟩ => show k0_off1 i 512#32 1 + 1 * (j 1).val = 1024 * (i 1).val + 512 * 1 + (j 1).val
              rw [show k0_off1 i 512#32 1 = 1024 * (i 1).val + 512 * 1 from congrFun e 1]; omega

/-- The two accumulator cells after any list of stores whose last two are to cell 0 and then to cell 1. -/
theorem canon_pair (a b : Elt F .f32) (L : List (View.Piece (Elt F) S2 .f32)) :
    View.canon (Val := Elt F) ((⟨Rect.unit ![1] S1.size inb_S2_S1_1, fun _ => b⟩ : View.Piece (Elt F) S2 .f32)
      :: ⟨Rect.unit ![0] S1.size inb_S2_S1_0, fun _ => a⟩ :: L) = pair a b := by
  funext y
  have hy : (y 0).val < 2 := (y 0).isLt
  unfold pair
  by_cases h : (y 0).val = 0
  · rw [if_pos h, View.canon_cons_of_not_mem]
    · have hy0 : y = (Rect.unit (s := S2) ![0] S1.size inb_S2_S1_0).emb (ix1 (n0 := 1) 0) :=
        funext fun d => Fin.ext <| match d with | ⟨0, _⟩ => h
      rw [hy0]; exact View.canon_cons_emb (Val := Elt F) _ _ _ _
    · rw [Rect.mem_set_unit]
      intro hm
      have := (hm 0).1
      change 1 ≤ (y 0).val at this
      omega
  · rw [if_neg h]
    have hy1 : y = (Rect.unit (s := S2) ![1] S1.size inb_S2_S1_1).emb (ix1 (n0 := 1) 0) :=
      funext fun d => Fin.ext <| match d with | ⟨0, _⟩ => (by show (y 0).val = 1; omega)
    rw [hy1]; exact View.canon_cons_emb (Val := Elt F) _ _ _ _

theorem z2 : ∀ a : Fin 2, (![0, 0] : Fin 2 → Nat) a = 0 := by decide
theorem hz2 : (![0, 0] : Fin 2 → Nat) = fun _ => 0 := funext z2
theorem hz3 : (![0, 0, 0] : Fin 3 → Nat) = fun _ => 0 := funext (by decide)

variable (c : Dev nD) (i : grid0.Coords)
  (arg2 : Memref sig .tc .vmem S1x512x2048 .f32) (harg2 : arg2.IsWhole) (arg3 : Memref sig .tc .vmem S1x512x2048 .f32) (harg3 : arg3.IsWhole)
  (arg4 : Memref sig .tc .vmem S1000x2048 .f32) (harg4 : arg4.IsWhole) (arg5 : Memref sig .tc .vmem S1x1000 .f32) (harg5 : arg5.IsWhole)
  (arg6 : Memref sig .tc .vmem S4x2048 .i32) (harg6 : arg6.IsWhole) (arg7 : Memref sig .tc .vmem S4x2048 .i32) (harg7 : arg7.IsWhole)
  (arg8 : Memref sig .tc .vmem S1x1000x1024 .f32) (harg8 : arg8.IsWhole) (arg9 : Memref sig .tc .vmem S1x1000x1024 .f32) (harg9 : arg9.IsWhole)
  (arg10 : Memref sig .tc .vmem S1x1 .f32) (harg10 : arg10.IsWhole) (arg11 : Memref sig .tc .smem S2 .f32) (harg11 : arg11.IsWhole)
  (arg12 : Memref sig .tc .vmem S1000x2048 .bf16) (harg12 : arg12.IsWhole)
  (x0 : Vec F S1x512x2048 .f32) (x1 : Vec F S1x512x2048 .f32) (x2 : Vec F S1000x2048 .f32) (x3 : Vec F S1x1000 .f32)
  (x4 : Vec F S4x2048 .i32) (x5 : Vec F S4x2048 .i32)

section CaseA
variable (hc0 : cond0_0 i) (hc1 : ¬cond0_1 i)

/-- Point 0: the logits block. -/
theorem outA_6 : out0_A_6 c i arg2 harg2 arg3 harg3 arg4 harg4 arg5 harg5 arg6 harg6 arg7 harg7 arg8 harg8 arg9 harg9 arg10 harg10 arg11 harg11 arg12 harg12 hc0 hc1 x0 x1 x2 x3 x4 x5
    = halves (k0_pay8 x3 x0 (k0_pay5 x2)) (k0_pay8 x3 x1 (k0_pay5 x2)) := by
  unfold out0_A_6
  rw [View.read_writes_junk_eq_canon]
  unfold kernelRun0_A
  dsimp only
  sl_unfold_words
  simp only [View.readAt_eq_ld, harg2.read_unread, harg3.read_unread, harg4.read_unread, harg5.read_unread, View.ld_unit_zero (S := S1x512x2048) hz3,
    View.ld_unit_zero (S := S1000x2048) hz2, View.ld_unit_zero (S := S1x1000) hz2, View.readCov_unit_zero (S := S1000x2048) _ hz2]
  rfl

/-- Point 0: the probabilities block. -/
theorem outA_7 : out0_A_7 c i arg2 harg2 arg3 harg3 arg4 harg4 arg5 harg5 arg6 harg6 arg7 harg7 arg8 harg8 arg9 harg9 arg10 harg10 arg11 harg11 arg12 harg12 hc0 hc1 x0 x1 x2 x3 x4 x5
    = halves (k0_pay12 x3 x0 (k0_pay5 x2)) (k0_pay12 x3 x1 (k0_pay5 x2)) := by
  unfold out0_A_7
  rw [View.read_writes_junk_eq_canon]
  unfold kernelRun0_A
  dsimp only
  sl_unfold_words
  simp only [View.readAt_eq_ld, harg2.read_unread, harg3.read_unread, harg4.read_unread, harg5.read_unread, View.ld_unit_zero (S := S1x512x2048) hz3,
    View.ld_unit_zero (S := S1000x2048) hz2, View.ld_unit_zero (S := S1x1000) hz2, View.readCov_unit_zero (S := S1000x2048) _ hz2]
  rfl

/-- Point 0: the accumulators, started at zero. -/
theorem soutA_0 : sout0_A_0 c i arg2 harg2 arg3 harg3 arg4 harg4 arg5 harg5 arg6 harg6 arg7 harg7 arg8 harg8 arg9 harg9 arg10 harg10 arg11 harg11 arg12 harg12 hc0 hc1 x0 x1 x2 x3 x4 x5
    = pair (lossStep i x3 x0 x1 (k0_pay5 x2) x4 x5 (FloatOps.ofBits .f32 0#32)) (cntStep i x5 (FloatOps.ofBits .f32 0#32)) := by
  unfold sout0_A_0
  rw [View.read_writes_junk_eq_canon]
  unfold kernelRun0_A
  dsimp only
  sl_unfold_words
  refine (canon_pair _ _ _).trans ?_
  simp only [View.readAt_eq_ld, harg2.read_unread, harg3.read_unread, harg4.read_unread, harg5.read_unread, harg6.read_unread, harg7.read_unread, View.ld_unit_zero (S := S1x512x2048) hz3,
    View.ld_unit_zero (S := S1000x2048) hz2, View.ld_unit_zero (S := S1x1000) hz2, View.readCov_unit_zero (S := S1000x2048) _ hz2]
  unfold lossStep cntStep
  simp only [← ld_row0 _ i (k0_off1_inb i 0), ← ld_row1 _ i (k0_off1_inb i 1)]
  rfl

/-- Point 0: the kept weights. -/
theorem soutA_1 : sout0_A_1 c i arg2 harg2 arg3 harg3 arg4 harg4 arg5 harg5 arg6 harg6 arg7 harg7 arg8 harg8 arg9 harg9 arg10 harg10 arg11 harg11 arg12 harg12 hc0 hc1 x0 x1 x2 x3 x4 x5
    = k0_pay5 x2 := by
  unfold sout0_A_1
  rw [View.read_writes_junk_eq_canon]
  unfold kernelRun0_A
  dsimp only
  sl_unfold_words
  rw [View.canon_unit_zero hz2]
  simp only [View.readAt_eq_ld, harg4.read_unread, View.ld_unit_zero (S := S1000x2048) hz2]

end CaseA

variable (xs0 : Vec F S2 .f32) (xs1 : Vec F S1000x2048 .bf16)

section CaseB
variable (hc0 : ¬cond0_0 i) (hc1 : ¬cond0_1 i)

/-- Points 1 to 6: the logits block. -/
theorem outB_6 : out0_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1
    = halves (k0_pay8 x3 x0 xs1) (k0_pay8 x3 x1 xs1) := by
  unfold out0_B_6
  rw [View.read_writes_junk_eq_canon]
  unfold kernelRun0_B
  dsimp only
  sl_unfold_words
  simp only [View.readAt_eq_ld, harg2.read_unread, harg3.read_unread, harg12.read_unread, harg5.read_unread, View.ld_unit_zero (S := S1x512x2048) hz3,
    View.ld_unit_zero (S := S1000x2048) hz2, View.ld_unit_zero (S := S1x1000) hz2]
  rfl

/-- Points 1 to 6: the probabilities block. -/
theorem outB_7 : out0_B_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1
    = halves (k0_pay12 x3 x0 xs1) (k0_pay12 x3 x1 xs1) := by
  unfold out0_B_7
  rw [View.read_writes_junk_eq_canon]
  unfold kernelRun0_B
  dsimp only
  sl_unfold_words
  simp only [View.readAt_eq_ld, harg2.read_unread, harg3.read_unread, harg12.read_unread, harg5.read_unread, View.ld_unit_zero (S := S1x512x2048) hz3,
    View.ld_unit_zero (S := S1000x2048) hz2, View.ld_unit_zero (S := S1x1000) hz2]
  rfl

/-- Points 1 to 6: the accumulators, continued from what the point before left. -/
theorem soutB_0 : sout0_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1
    = pair (lossStep i x3 x0 x1 xs1 x4 x5 (xs0 (ix1 0))) (cntStep i x5 (xs0 (ix1 1))) := by
  unfold sout0_B_0
  rw [View.read_writes_junk_eq_canon]
  unfold kernelRun0_B
  dsimp only
  sl_unfold_words
  refine (canon_pair _ _ _).trans ?_
  simp only [View.readAt_eq_ld, harg2.read_unread, harg3.read_unread, harg12.read_unread, harg5.read_unread, harg6.read_unread, harg7.read_unread, harg11.read_unread, View.ld_unit_zero (S := S1x512x2048) hz3,
    View.ld_unit_zero (S := S1000x2048) hz2, View.ld_unit_zero (S := S1x1000) hz2]
  unfold lossStep cntStep
  simp only [← ld_row0 _ i (k0_off1_inb i 0), ← ld_row1 _ i (k0_off1_inb i 1)]
  have e0 : View.ld xs0 (Rect.unit (s := S2) ![0] S1.size inb_S2_S1_0) (Shape.Idx.first (by decide)) = xs0 (ix1 0) :=
    congrArg xs0 (funext fun a => Fin.ext (match a with | ⟨0, _⟩ => rfl))
  have e1 : View.ld xs0 (Rect.unit (s := S2) ![1] S1.size inb_S2_S1_1) (Shape.Idx.first (by decide)) = xs0 (ix1 1) :=
    congrArg xs0 (funext fun a => Fin.ext (match a with | ⟨0, _⟩ => rfl))
  rw [← e0, ← e1]
  rfl

end CaseB

section CaseC
variable (hc0 : ¬cond0_0 i) (hc1 : cond0_1 i)

/-- The last point: the logits block. -/
theorem outC_6 : out0_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1
    = halves (k0_pay8 x3 x0 xs1) (k0_pay8 x3 x1 xs1) := by
  unfold out0_C_6
  rw [View.read_writes_junk_eq_canon]
  unfold kernelRun0_C
  dsimp only
  sl_unfold_words
  simp only [View.readAt_eq_ld, harg2.read_unread, harg3.read_unread, harg12.read_unread, harg5.read_unread, View.ld_unit_zero (S := S1x512x2048) hz3,
    View.ld_unit_zero (S := S1000x2048) hz2, View.ld_unit_zero (S := S1x1000) hz2]
  rfl

/-- The last point: the probabilities block. -/
theorem outC_7 : out0_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1
    = halves (k0_pay12 x3 x0 xs1) (k0_pay12 x3 x1 xs1) := by
  unfold out0_C_7
  rw [View.read_writes_junk_eq_canon]
  unfold kernelRun0_C
  dsimp only
  sl_unfold_words
  simp only [View.readAt_eq_ld, harg2.read_unread, harg3.read_unread, harg12.read_unread, harg5.read_unread, View.ld_unit_zero (S := S1x512x2048) hz3,
    View.ld_unit_zero (S := S1000x2048) hz2, View.ld_unit_zero (S := S1x1000) hz2]
  rfl

/-- The last point: the stored quotient of the two accumulators as the point leaves them. -/
theorem outC_8 : out0_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1
    = k0_pay4 (lossStep i x3 x0 x1 xs1 x4 x5 (xs0 (ix1 0))) (cntStep i x5 (xs0 (ix1 1))) := by
  unfold out0_C_8
  rw [View.read_writes_junk_eq_canon]
  unfold kernelRun0_C
  dsimp only
  sl_unfold_words
  refine (View.canon_unit_zero (S := S1x1) hz2 _ _).trans ?_
  simp only [View.readAt_eq_ld, harg2.read_unread, harg3.read_unread, harg12.read_unread, harg5.read_unread, harg6.read_unread, harg7.read_unread, harg11.read_unread, View.ld_unit_zero (S := S1x512x2048) hz3,
    View.ld_unit_zero (S := S1000x2048) hz2, View.ld_unit_zero (S := S1x1000) hz2]
  unfold lossStep cntStep
  simp only [← ld_row0 _ i (k0_off1_inb i 0), ← ld_row1 _ i (k0_off1_inb i 1)]
  have e0 : View.ld xs0 (Rect.unit (s := S2) ![0] S1.size inb_S2_S1_0) (Shape.Idx.first (by decide)) = xs0 (ix1 0) :=
    congrArg xs0 (funext fun a => Fin.ext (match a with | ⟨0, _⟩ => rfl))
  have e1 : View.ld xs0 (Rect.unit (s := S2) ![1] S1.size inb_S2_S1_1) (Shape.Idx.first (by decide)) = xs0 (ix1 1) :=
    congrArg xs0 (funext fun a => Fin.ext (match a with | ⟨0, _⟩ => rfl))
  rw [← e0, ← e1]
  rfl

end CaseC

end Cert.KernelIdeal.Val

end
-- ==== Proof.Block.lean ====
/-
  What one half block computes, entry by entry, over the extended reals: the logits of 512 positions, their column maxima
  and sums of exponentials, the probabilities, and the two accumulator updates.
-/
module

public import proofs.«01_k».proof.Proof.Gen.KernelIdeal.Skeleton
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.Spec

/-- The logit of class `c` at a position whose features are `x`: weights times features, plus the bias. -/
def logit (W : Fin 1000 → Fin 2048 → EReal) (b : Fin 1000 → EReal) (x : Fin 2048 → EReal) (c : Fin 1000) : EReal :=
  (∑ k, W c k * x k) + b c

/-- The largest logit of a position. -/
def top (lg : Fin 1000 → EReal) : EReal := Finset.univ.fold max ⊥ lg

/-- The sum over the classes of the exponentials of the logits shifted by the largest. -/
def mass (lg : Fin 1000 → EReal) : EReal := ∑ c, Ideal.exp (lg c - top lg)

/-- The probability of class `c` as the kernel forms it: the exponential times the reciprocal of the sum. -/
def prob (lg : Fin 1000 → EReal) (c : Fin 1000) : EReal := Ideal.exp (lg c - top lg) * Ideal.div 1 (mass lg)

/-- The negative log likelihood of the target word `t` as the kernel forms it: log-sum-exp less the logit the word selects. -/
def nll (lg : Fin 1000 → EReal) (t : BitVec 32) : EReal :=
  (top lg + Ideal.log (mass lg)) - ∑ c : Fin 1000, if BitVec.ofNat 32 c.val = t then lg c else 0

end Cert.Spec

namespace Cert.KernelIdeal.Val

open Cert.KernelIdeal Cert.KernelIdeal.Gen Cert.Spec

/-- A selection on the word comparison "different". -/
theorem select_ne (a b : BitVec 32) (u v : EReal) : Scalar.select (IntOp.cmpi .ne a b) u v = if a ≠ b then u else v := by
  by_cases h : a = b
  · simp [Scalar.select, IntOp.cmpi, h]
  · have h' : (a != b) = true := by simpa using h
    simp [Scalar.select, IntOp.cmpi, h, h']

/-- A selection on the word comparison "equal". -/
theorem select_eq (a b : BitVec 32) (u v : EReal) : Scalar.select (IntOp.cmpi .eq a b) u v = if a = b then u else v := by
  by_cases h : a = b
  · simp [Scalar.select, IntOp.cmpi, h]
  · have h' : (a == b) = false := by simpa using h
    simp [Scalar.select, IntOp.cmpi, h, h']

/-- The comparison bit "different", widened and converted to a number, is one or zero. -/
theorem count_ne (a b : BitVec 32) :
    (FloatOps.sitofp (F := Ideal) .f32 (BitVec.setWidth 32 (IntOp.cmpi .ne a b)) : EReal) = if a ≠ b then 1 else 0 := by
  by_cases h : a = b
  · subst h
    simp only [IntOp.cmpi, bne_self_eq_false, ne_eq, not_true_eq_false, if_false]
    show (((BitVec.setWidth 32 (BitVec.ofBool false)).toInt : ℝ) : EReal) = 0
    simp
  · have h' : (a != b) = true := by simpa using h
    simp only [IntOp.cmpi, h', ne_eq, h, not_false_eq_true, if_true]
    show (((BitVec.setWidth 32 (BitVec.ofBool true)).toInt : ℝ) : EReal) = 1
    simp

variable (b : Vec Ideal S1x1000 .f32) (x : Vec Ideal S1x512x2048 .f32) (w : Vec Ideal S1000x2048 .bf16)

/-- The logits of position `l` of a half block. -/
abbrev lgs (l : Fin 512) : Fin 1000 → EReal :=
  logit (fun c k => w (ix2 c k)) (fun c => b (ix2 0 c)) (fun k => x (ix3 0 l k))

theorem pay7_apply (c : Fin 1000) (l : Fin 512) : k0_pay7 b x w (ix2 c l) = lgs b x w l c := by
  unfold k0_pay7 k0_pay6 lgs logit
  pointwise

theorem pay8_apply (c : Fin 1000) (l : Fin 512) : k0_pay8 b x w (ix3 0 c l) = lgs b x w l c := by
  rw [← pay7_apply]
  unfold k0_pay8
  pointwise

theorem bot_word : Ideal.ofBits .f32 0xFF800000#32 = ⊥ := by simp [Ideal.ofBits, Ideal.ieee]

theorem pay9_apply (l : Fin 512) : k0_pay9 b x w (ix2 0 l) = top (lgs b x w l) := by
  unfold k0_pay9
  pointwise
  simp only [pay7_apply, bot_word]
  rfl

theorem pay10_apply (c : Fin 1000) (l : Fin 512) :
    k0_pay10 b x w (ix2 c l) = Ideal.exp (lgs b x w l c - top (lgs b x w l)) := by
  unfold k0_pay10
  pointwise
  simp only [pay7_apply, pay9_apply]

theorem pay11_apply (l : Fin 512) : k0_pay11 b x w (ix2 0 l) = mass (lgs b x w l) := by
  unfold k0_pay11
  pointwise
  simp only [pay10_apply]
  rfl

theorem pay12_apply (c : Fin 1000) (l : Fin 512) : k0_pay12 b x w (ix3 0 c l) = prob (lgs b x w l) c := by
  unfold k0_pay12
  pointwise
  simp only [pay10_apply, pay11_apply]
  rfl

/-- The loss accumulator's update over any logits `u`, maxima `p` and sums `q`. -/
theorem pay14_read (u : FVec Ideal S1000x512 .f32) (p q : FVec Ideal S1x512 .f32) (t k : Vec Ideal S1x512 .i32) (acc : EReal) :
    k0_pay14 (F := Ideal) u p q t k acc = acc + ∑ l : Fin 512, if k (ix2 0 l) ≠ 0#32 then
      (p (ix2 0 l) + Ideal.log (q (ix2 0 l))) - ∑ c : Fin 1000, (if BitVec.ofNat 32 c.val = t (ix2 0 l) then u (ix2 c l) else 0) else 0 := by
  unfold k0_pay14 k0_pay13
  pointwise
  simp only [select_ne, select_eq, Fin.sum_univ_one]

/-- One half block adds to the loss accumulator its 512 masked negative log likelihoods. -/
theorem pay14_apply (t k : Vec Ideal S1x512 .i32) (acc : EReal) :
    k0_pay14 (F := Ideal) (k0_pay7 b x w) (k0_pay9 b x w) (k0_pay11 b x w) t k acc
      = acc + ∑ l : Fin 512, if k (ix2 0 l) ≠ 0#32 then nll (lgs b x w l) (t (ix2 0 l)) else 0 := by
  rw [pay14_read]
  simp only [pay7_apply, pay9_apply, pay11_apply, nll]

/-- One half block adds to the position count the number of its masked positions. -/
theorem pay15_apply (k : Vec Ideal S1x512 .i32) (acc : EReal) :
    k0_pay15 (F := Ideal) k acc = acc + ∑ l : Fin 512, if k (ix2 0 l) ≠ 0#32 then 1 else 0 := by
  unfold k0_pay15 k0_pay13
  pointwise
  simp only [count_ne, Fin.sum_univ_one]

theorem pay4_apply (a n : EReal) (j : S1x1.Idx) : k0_pay4 (F := Ideal) a n j = Ideal.div a (max n 1) := by
  unfold k0_pay4
  pointwise

theorem pay5_apply (W : Vec Ideal S1000x2048 .f32) (j : S1000x2048.Idx) : k0_pay5 (F := Ideal) W j = W j := by
  unfold k0_pay5
  pointwise

end Cert.KernelIdeal.Val

end
-- ==== Proof.Inputs.lean ====
/-
  What the body finds in each input window's staging buffer at grid point `t`: a block of an argument array. Batch row `t / 2`,
  positions from `1024 * (t % 2)`; the weights, the bias, the targets and the mask are found whole.
-/
module

public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Pointwise.Index

@[expose] public section

set_option maxRecDepth 16384

noncomputable section

open Idealize.ShloMosaic Idealize.ShloMosaic.TcCoe Idealize.SL.Sem

namespace Cert.KernelIdeal.Val

open Cert.KernelIdeal Cert.KernelIdeal.Gen

variable {F : FTy → Type} [FloatOps F]
variable (m : (ℓ : Loc nD τ sig) → Buf (Elt F) ℓ)

/-- The features, as launched. -/
abbrev aX (c : Dev nD) : Vec F S4x2048x2048 .f32 := m ((c : Thread nD τ).loc main_arg0)
/-- The target words, as launched. -/
abbrev aT (c : Dev nD) : Vec F S4x2048 .i32 := m ((c : Thread nD τ).loc main_arg1)
/-- The mask bits, as launched. -/
abbrev aM (c : Dev nD) : Vec F S4x2048 .i1 := m ((c : Thread nD τ).loc main_arg2)
/-- The weights, as launched. -/
abbrev aW (c : Dev nD) : Vec F S1000x2048 .f32 := m ((c : Thread nD τ).loc main_arg3)
/-- The bias, as launched. -/
abbrev aB (c : Dev nD) : Vec F S1000 .f32 := m ((c : Thread nD τ).loc main_arg4)

theorem pt_lt (t : Fin cfg0.N) : t.val < 8 := lt_of_lt_of_eq t.isLt N_0

/-- The grid coordinates of a point. -/
theorem coords_facts : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)

/-- The block indices of the two position windows. -/
theorem pos_facts : ∀ t : Fin cfg0.N, (win0_0.index t (0 : Fin 3) = t.val / 2 ∧ win0_0.index t (1 : Fin 3) = 2 * (t.val % 2) ∧ win0_0.index t (2 : Fin 3) = 0)
    ∧ (win0_1.index t (0 : Fin 3) = t.val / 2 ∧ win0_1.index t (1 : Fin 3) = 2 * (t.val % 2) + 1 ∧ win0_1.index t (2 : Fin 3) = 0) :=
  (by decide +kernel : ∀ t : Fin grid0.N, (win0_0.index t (0 : Fin 3) = t.val / 2 ∧ win0_0.index t (1 : Fin 3) = 2 * (t.val % 2) ∧ win0_0.index t (2 : Fin 3) = 0)
    ∧ (win0_1.index t (0 : Fin 3) = t.val / 2 ∧ win0_1.index t (1 : Fin 3) = 2 * (t.val % 2) + 1 ∧ win0_1.index t (2 : Fin 3) = 0))

/-- The block indices of the windows found whole. -/
theorem whole_facts : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0))

/-! The arrays as the region finds them. -/

theorem V_arg0 (c : Dev nD) : V m c main_arg0 = m ((c : Thread nD τ).loc main_arg0) := by
  dsimp only [V, V0, List.flatten, hostOps0, hostOps0_1, List.append]; after_results <;> rfl
theorem V_arg1 (c : Dev nD) : V m c main_arg1 = m ((c : Thread nD τ).loc main_arg1) := by
  dsimp only [V, V0, List.flatten, hostOps0, hostOps0_1, List.append]; after_results <;> rfl
theorem V_arg3 (c : Dev nD) : V m c main_arg3 = m ((c : Thread nD τ).loc main_arg3) := by
  dsimp only [V, V0, List.flatten, hostOps0, hostOps0_1, List.append]; after_results <;> rfl
theorem V_bias (c : Dev nD) : (V m c main_v0 : Vec F S1x1000 .f32) = shapeCast S1x1000 (aB m c) shapeCasts_S1000_S1x1000 := by
  dsimp only [V, V0, List.flatten, hostOps0, hostOps0_1, List.append]; after_results <;> rfl
theorem V_mask (c : Dev nD) : (V m c main_call0_v0 : Vec F S4x2048 .i32) = extui 32 (aM m c) natLt_1_32 := by
  dsimp only [V, V0, List.flatten, hostOps0, hostOps0_1, List.append]; after_results <;> rfl

/-- The first half's positions at point `t`. -/
theorem iblk0_apply (c : Dev nD) (t : Fin cfg0.N) (l : Fin 512) (k : Fin 2048) :
    (iblk m c 0 t : Vec F S1x512x2048 .f32) (ix3 0 l k)
      = aX m c (ix3 ⟨t.val / 2, by have := pt_lt t; omega⟩ ⟨1024 * (t.val % 2) + 512 * 0 + l.val, by have := l.isLt; omega⟩ k) := by
  obtain ⟨⟨h0, h1, h2⟩, -⟩ := pos_facts t
  unfold iblk
  rw [View.read_apply]
  show V m c main_arg0 _ = _
  rw [V_arg0]
  refine congrArg (m ((c : Thread nD τ).loc main_arg0)) (funext fun a => Fin.ext ?_)
  match a with
  | ⟨0, _⟩ => show win0_0.index t 0 * 1 + 1 * 0 = t.val / 2; rw [h0]; omega
  | ⟨1, _⟩ => show win0_0.index t 1 * 512 + 1 * l.val = 1024 * (t.val % 2) + 512 * 0 + l.val; rw [h1]; omega
  | ⟨2, _⟩ => show win0_0.index t 2 * 2048 + 1 * k.val = k.val; rw [h2]; omega

/-- The second half's positions at point `t`. -/
theorem iblk1_apply (c : Dev nD) (t : Fin cfg0.N) (l : Fin 512) (k : Fin 2048) :
    (iblk m c 1 t : Vec F S1x512x2048 .f32) (ix3 0 l k)
      = aX m c (ix3 ⟨t.val / 2, by have := pt_lt t; omega⟩ ⟨1024 * (t.val % 2) + 512 * 1 + l.val, by have := l.isLt; omega⟩ k) := by
  obtain ⟨-, h0, h1, h2⟩ := pos_facts t
  unfold iblk
  rw [View.read_apply]
  show V m c main_arg0 _ = _
  rw [V_arg0]
  refine congrArg (m ((c : Thread nD τ).loc main_arg0)) (funext fun a => Fin.ext ?_)
  match a with
  | ⟨0, _⟩ => show win0_1.index t 0 * 1 + 1 * 0 = t.val / 2; rw [h0]; omega
  | ⟨1, _⟩ => show win0_1.index t 1 * 512 + 1 * l.val = 1024 * (t.val % 2) + 512 * 1 + l.val; rw [h1]; omega
  | ⟨2, _⟩ => show win0_1.index t 2 * 2048 + 1 * k.val = k.val; rw [h2]; omega

/-- The weights, found whole. -/
theorem iblk2_eq (c : Dev nD) (t : Fin cfg0.N) : (iblk m c 2 t : Vec F S1000x2048 .f32) = aW m c := by
  obtain ⟨⟨h0, h1⟩, -, -, -⟩ := whole_facts t
  funext j
  unfold iblk
  rw [View.read_apply]
  show V m c main_arg3 _ = _
  rw [V_arg3]
  refine congrArg (m ((c : Thread nD τ).loc main_arg3)) (funext fun a => Fin.ext ?_)
  match a with
  | ⟨0, _⟩ => show win0_2.index t 0 * 1000 + 1 * (j 0).val = (j 0).val; rw [h0]; omega
  | ⟨1, _⟩ => show win0_2.index t 1 * 2048 + 1 * (j 1).val = (j 1).val; rw [h1]; omega

/-- The bias row. -/
theorem iblk3_apply (c : Dev nD) (t : Fin cfg0.N) (k : Fin 1000) : (iblk m c 3 t : Vec F S1x1000 .f32) (ix2 0 k) = aB m c (ix1 k) := by
  obtain ⟨-, ⟨h0, h1⟩, -, -⟩ := whole_facts t
  unfold iblk
  rw [View.read_apply]
  show (V m c main_v0 : Vec F S1x1000 .f32) _ = _
  rw [V_bias]
  refine shapeCast_apply _ _ _ (ix1 k) ?_
  rw [Shape.rowMajor_val_one, Shape.rowMajor_val_two]
  show k.val = (win0_3.index t 0 * 1 + 1 * 0) * 1000 + (win0_3.index t 1 * 1000 + 1 * k.val)
  rw [h0, h1]; omega

/-- The target table, found whole. -/
theorem iblk4_eq (c : Dev nD) (t : Fin cfg0.N) : (iblk m c 4 t : Vec F S4x2048 .i32) = aT m c := by
  obtain ⟨-, -, ⟨h0, h1⟩, -⟩ := whole_facts t
  funext j
  unfold iblk
  rw [View.read_apply]
  show V m c main_arg1 _ = _
  rw [V_arg1]
  refine congrArg (m ((c : Thread nD τ).loc main_arg1)) (funext fun a => Fin.ext ?_)
  match a with
  | ⟨0, _⟩ => show win0_4.index t 0 * 4 + 1 * (j 0).val = (j 0).val; rw [h0]; omega
  | ⟨1, _⟩ => show win0_4.index t 1 * 2048 + 1 * (j 1).val = (j 1).val; rw [h1]; omega

/-- The mask table as words, found whole. -/
theorem iblk5_eq (c : Dev nD) (t : Fin cfg0.N) : (iblk m c 5 t : Vec F S4x2048 .i32) = extui 32 (aM m c) natLt_1_32 := by
  obtain ⟨-, -, -, ⟨h0, h1⟩⟩ := whole_facts t
  rw [← V_mask]
  funext j
  unfold iblk
  rw [View.read_apply]
  show V m c main_call0_v0 _ = V m c main_call0_v0 _
  refine congrArg (V m c main_call0_v0) (funext fun a => Fin.ext ?_)
  match a with
  | ⟨0, _⟩ => show win0_5.index t 0 * 4 + 1 * (j 0).val = (j 0).val; rw [h0]; omega
  | ⟨1, _⟩ => show win0_5.index t 1 * 2048 + 1 * (j 1).val = (j 1).val; rw [h1]; omega

end Cert.KernelIdeal.Val

end
-- ==== Proof.Points.lean ====
/-
  What the staging buffers hold after each grid point, in closed form: the logits and probabilities of the point's 1024
  positions, and the accumulators as sums over the points so far.
-/
module

public import proofs.«01_k».proof.Proof.Pieces
public import proofs.«01_k».proof.Proof.Block
public import proofs.«01_k».proof.Proof.Inputs

@[expose] public section

set_option maxRecDepth 16384

noncomputable section

open Idealize.ShloMosaic Idealize.ShloMosaic.TcCoe Idealize.SL.Sem

namespace Cert.KernelIdeal.Val

open Cert.KernelIdeal Cert.KernelIdeal.Gen Cert.Spec

variable (m : (ℓ : Loc nD τ sig) → Buf (Elt Ideal) ℓ) (c : Dev nD)

/-- The logits of position `s` of batch row `i`. -/
def lgAt (i : Fin 4) (s : Fin 2048) : Fin 1000 → EReal :=
  logit (fun v k => aW m c (ix2 v k)) (fun v => aB m c (ix1 v)) (fun k => aX m c (ix3 i s k))

/-- A position's term of the loss: its negative log likelihood where the mask bit is set, zero elsewhere. -/
def lossTerm (i : Fin 4) (s : Fin 2048) : EReal :=
  if aM m c (ix2 i s) ≠ 0#1 then nll (lgAt m c i s) (aT m c (ix2 i s)) else 0

/-- A position's term of the count: one where the mask bit is set, zero elsewhere. -/
def cntTerm (i : Fin 4) (s : Fin 2048) : EReal := if aM m c (ix2 i s) ≠ 0#1 then 1 else 0

/-- The sum of `f` over the 512 positions of half `h` of point `t`. -/
def half (f : Fin 4 → Fin 2048 → EReal) (t : Fin 8) (h : Fin 2) : EReal :=
  ∑ l : Fin 512, f ⟨t.val / 2, by have := t.isLt; omega⟩ ⟨1024 * (t.val % 2) + 512 * h.val + l.val, by
    have := l.isLt; have := h.isLt; omega⟩

/-- The sum of `f` over the 1024 positions of point `n`. -/
def ptSum (f : Fin 4 → Fin 2048 → EReal) (n : ℕ) : EReal :=
  if hn : n < 8 then half f ⟨n, hn⟩ 0 + half f ⟨n, hn⟩ 1 else 0

/-- A table's stretch read at lane `l`: the entry at the half's position. -/
theorem row_apply (X : Vec Ideal S4x2048 .i32) (t : Fin cfg0.N) (h : Fin 2) (l : Fin 512) :
    row X (grid0.coords t) h (ix2 0 l) = X (ix2 ⟨t.val / 2, by have := pt_lt t; omega⟩
      ⟨1024 * (t.val % 2) + 512 * h.val + l.val, by have := l.isLt; have := h.isLt; omega⟩) := by
  obtain ⟨e0, e1⟩ := coords_facts t
  unfold row
  refine congrArg X (funext fun a => Fin.ext ?_)
  match a with
  | ⟨0, _⟩ => exact e0
  | ⟨1, _⟩ => show 1024 * (grid0.coords t 1).val + 512 * h.val + l.val = 1024 * (t.val % 2) + 512 * h.val + l.val
              rw [e1]

theorem lgs0 (t : Fin cfg0.N) (l : Fin 512) :
    lgs (iblk m c 3 t : Vec Ideal S1x1000 .f32) (iblk m c 0 t : Vec Ideal S1x512x2048 .f32) (k0_pay5 (F := Ideal) (aW m c)) l
      = lgAt m c ⟨t.val / 2, by have := pt_lt t; omega⟩ ⟨1024 * (t.val % 2) + 512 * 0 + l.val, by have := l.isLt; omega⟩ := by
  unfold lgs lgAt
  simp only [iblk0_apply, iblk3_apply, pay5_apply]

theorem lgs1 (t : Fin cfg0.N) (l : Fin 512) :
    lgs (iblk m c 3 t : Vec Ideal S1x1000 .f32) (iblk m c 1 t : Vec Ideal S1x512x2048 .f32) (k0_pay5 (F := Ideal) (aW m c)) l
      = lgAt m c ⟨t.val / 2, by have := pt_lt t; omega⟩ ⟨1024 * (t.val % 2) + 512 * 1 + l.val, by have := l.isLt; omega⟩ := by
  unfold lgs lgAt
  simp only [iblk1_apply, iblk3_apply, pay5_apply]

/-- A mask bit widened to a word is nonzero exactly when the bit is set. -/
theorem widen_ne (b : BitVec 1) : b.setWidth 32 ≠ 0#32 ↔ b ≠ 0#1 := by
  revert b; decide

theorem mask_apply (t : Fin cfg0.N) (i : Fin 4) (s : Fin 2048) :
    (iblk m c 5 t : Vec Ideal S4x2048 .i32) (ix2 i s) = (aM m c (ix2 i s)).setWidth 32 := by
  rw [iblk5_eq]; rfl

/-- One point's update of the loss accumulator adds the point's loss terms. -/
theorem lossStep_eq (t : Fin cfg0.N) (acc : EReal) :
    lossStep (F := Ideal) (grid0.coords t) (iblk m c 3 t) (iblk m c 0 t) (iblk m c 1 t) (k0_pay5 (F := Ideal) (aW m c)) (iblk m c 4 t) (iblk m c 5 t) acc
      = acc + ptSum (lossTerm m c) t.val := by
  unfold lossStep lossHalf
  refine (pay14_apply _ _ _ _ _ _).trans ?_
  rw [pay14_apply, add_assoc, ptSum, dif_pos (pt_lt t)]
  simp only [lgs0, lgs1, row_apply, mask_apply, iblk4_eq, widen_ne]
  rfl

/-- One point's update of the count adds the point's count terms. -/
theorem cntStep_eq (t : Fin cfg0.N) (acc : EReal) :
    cntStep (F := Ideal) (grid0.coords t) (iblk m c 5 t) acc = acc + ptSum (cntTerm m c) t.val := by
  unfold cntStep
  refine (pay15_apply _ _).trans ?_
  rw [pay15_apply, add_assoc, ptSum, dif_pos (pt_lt t)]
  simp only [row_apply, mask_apply, widen_ne]
  rfl

/-- After point `n` (the last apart) the weights are kept and the accumulators hold the sums over the points up to `n`. -/
theorem state_eq : ∀ (n : ℕ) (hn : n < cfg0.N), n < 7 →
    (outsAt0 m c n hn).2.2.2.2 = k0_pay5 (F := Ideal) (aW m c)
    ∧ (outsAt0 m c n hn).2.2.2.1 = pair (F := Ideal) (∑ x ∈ Finset.range (n + 1), ptSum (lossTerm m c) x) (∑ x ∈ Finset.range (n + 1), ptSum (cntTerm m c) x)
  | 0, hn, _ => by
    have e := outsAt0_A m c ⟨0, hn⟩ rfl (by show ¬ 0 % 8 = 7; decide)
    rw [e]
    dsimp only
    rw [soutA_1, soutA_0]
    refine ⟨?_, ?_⟩
    · exact congrArg _ (iblk2_eq m c _)
    · rw [iblk2_eq, lossStep_eq, cntStep_eq]
      rw [Finset.sum_range_one, Finset.sum_range_one, Ideal.ofBits_def, Ideal.ofBits_zero_f32, zero_add, zero_add]
  | n + 1, hn, h7 => by
    obtain ⟨iw, ia⟩ := state_eq n (Nat.lt_of_succ_lt hn) (Nat.lt_of_succ_lt h7)
    have h0 : ¬ (⟨n + 1, hn⟩ : Fin cfg0.N).val % 8 = 0 := by dsimp only; omega
    have h1 : ¬ (⟨n + 1, hn⟩ : Fin cfg0.N).val % 8 = 7 := by dsimp only; omega
    have e := outsAt0_B m c ⟨n + 1, hn⟩ h0 h1
    rw [e]
    dsimp only
    rw [soutB_0]
    refine ⟨iw, ?_⟩
    rw [show (outsAt0 m c ((⟨n + 1, hn⟩ : Fin cfg0.N).val - 1) _).2.2.2.2 = _ from iw, show (outsAt0 m c ((⟨n + 1, hn⟩ : Fin cfg0.N).val - 1) _).2.2.2.1 = _ from ia,
      lossStep_eq, cntStep_eq, Finset.sum_range_succ _ (n + 1), Finset.sum_range_succ _ (n + 1)]
    rfl

/-- What the point before `t` left of the kept weights, for a point past the first. -/
theorem kept (t : Fin cfg0.N) (h0 : ¬ t.val % 8 = 0) (hp : t.val - 1 < cfg0.N) :
    (outsAt0 m c (t.val - 1) hp).2.2.2.2 = k0_pay5 (F := Ideal) (aW m c) :=
  (state_eq m c (t.val - 1) hp (by have := pt_lt t; omega)).1

/-- The logits block at point `t`: its two halves over the kept weights. -/
theorem logits_eq (t : Fin cfg0.N) : (outsAt0 m c t.val t.isLt).1
    = halves (F := Ideal) (k0_pay8 (iblk m c 3 t) (iblk m c 0 t) (k0_pay5 (F := Ideal) (aW m c))) (k0_pay8 (iblk m c 3 t) (iblk m c 1 t) (k0_pay5 (F := Ideal) (aW m c))) := by
  by_cases h0 : t.val % 8 = 0
  · have h1 : ¬ t.val % 8 = 7 := by omega
    rw [outsAt0_A m c t h0 h1]; dsimp only; rw [outA_6]
    rw [iblk2_eq]
  · by_cases h1 : t.val % 8 = 7
    · rw [outsAt0_C m c t h0 h1]; dsimp only; rw [outC_6]
      rw [kept m c t h0]
    · rw [outsAt0_B m c t h0 h1]; dsimp only; rw [outB_6]
      rw [kept m c t h0]

/-- The probabilities block at point `t`: its two halves over the kept weights. -/
theorem probs_eq (t : Fin cfg0.N) : (outsAt0 m c t.val t.isLt).2.1
    = halves (F := Ideal) (k0_pay12 (iblk m c 3 t) (iblk m c 0 t) (k0_pay5 (F := Ideal) (aW m c))) (k0_pay12 (iblk m c 3 t) (iblk m c 1 t) (k0_pay5 (F := Ideal) (aW m c))) := by
  by_cases h0 : t.val % 8 = 0
  · have h1 : ¬ t.val % 8 = 7 := by omega
    rw [outsAt0_A m c t h0 h1]; dsimp only; rw [outA_7]
    rw [iblk2_eq]
  · by_cases h1 : t.val % 8 = 7
    · rw [outsAt0_C m c t h0 h1]; dsimp only; rw [outC_7]
      rw [kept m c t h0]
    · rw [outsAt0_B m c t h0 h1]; dsimp only; rw [outB_7]
      rw [kept m c t h0]

/-- The loss block at the last point: the sum of the loss terms over all points, divided by the count (at least one). -/
theorem loss_eq (t : Fin cfg0.N) (h1 : t.val % 8 = 7) (j : S1x1.Idx) : (outsAt0 m c t.val t.isLt).2.2.1 j
    = Ideal.div (∑ x ∈ Finset.range 8, ptSum (lossTerm m c) x) (max (∑ x ∈ Finset.range 8, ptSum (cntTerm m c) x) 1) := by
  have h0 : ¬ t.val % 8 = 0 := by omega
  have ht : t.val = 7 := by have := pt_lt t; omega
  rw [outsAt0_C m c t h0 h1]; dsimp only; rw [outC_8]
  have hp : t.val - 1 < cfg0.N := lt_of_le_of_lt (Nat.sub_le _ _) t.isLt
  obtain ⟨iw, ia⟩ := state_eq m c (t.val - 1) hp (by omega)
  rw [pay4_apply, iw, ia, lossStep_eq, cntStep_eq, ht]
  rw [Finset.sum_range_succ _ 7, Finset.sum_range_succ _ 7]
  rfl

/-- Two halves side by side, read in the first 512 columns and in the last. -/
theorem halves_apply (lo hi : Vec Ideal S1x1000x512 .f32) (v : Fin 1000) (h : Fin 2) (l : Fin 512) (s : Fin 1024) (hs : s.val = 512 * h.val + l.val) :
    halves lo hi (ix3 0 v s) = if h.val = 0 then lo (ix3 0 v l) else hi (ix3 0 v l) := by
  have hl := l.isLt
  unfold halves
  by_cases h0 : h.val = 0
  · rw [if_pos h0, View.canon_cons_of_not_mem]
    · have e : (ix3 0 v s : S1x1000x1024.Idx) = (Rect.unit (s := S1x1000x1024) ![0, 0, 0] S1x1000x512.size inb_S1x1000x1024_S1x1000x512_0_0_0).emb (ix3 0 v l) :=
        funext fun d => Fin.ext <| match d with
          | ⟨0, _⟩ => rfl
          | ⟨1, _⟩ => (by show v.val = 0 + 1 * v.val; omega)
          | ⟨2, _⟩ => (by show s.val = 0 + 1 * l.val; omega)
      rw [e]; exact View.canon_cons_emb (Val := Elt Ideal) _ _ _ _
    · rw [Rect.mem_set_unit]
      intro hm
      have := (hm 2).1
      change 512 ≤ s.val at this
      omega
  · rw [if_neg h0]
    have h1 : h.val = 1 := by have := h.isLt; omega
    have e : (ix3 0 v s : S1x1000x1024.Idx) = (Rect.unit (s := S1x1000x1024) ![0, 0, 512] S1x1000x512.size inb_S1x1000x1024_S1x1000x512_0_0_512).emb (ix3 0 v l) :=
      funext fun d => Fin.ext <| match d with
        | ⟨0, _⟩ => rfl
        | ⟨1, _⟩ => (by show v.val = 0 + 1 * v.val; omega)
        | ⟨2, _⟩ => (by show s.val = 512 + 1 * l.val; omega)
    rw [e]; exact View.canon_cons_emb (Val := Elt Ideal) _ _ _ _

/-- Column `s` of the logits block at point `t`: the logits of position `1024 * (t % 2) + s`. -/
theorem logits_apply (t : Fin cfg0.N) (v : Fin 1000) (s : Fin 1024) : (outsAt0 m c t.val t.isLt).1 (ix3 0 v s)
    = lgAt m c ⟨t.val / 2, by have := pt_lt t; omega⟩ ⟨1024 * (t.val % 2) + s.val, by have := s.isLt; omega⟩ v := by
  have hs := s.isLt
  rw [logits_eq, halves_apply _ _ v ⟨s.val / 512, by omega⟩ ⟨s.val % 512, by omega⟩ s (by dsimp only; omega)]
  dsimp only
  by_cases h0 : s.val / 512 = 0
  · rw [if_pos h0, pay8_apply, lgs0]
    refine congrArg (fun q => lgAt m c _ q v) (Fin.ext ?_)
    dsimp only; omega
  · rw [if_neg h0, pay8_apply, lgs1]
    refine congrArg (fun q => lgAt m c _ q v) (Fin.ext ?_)
    dsimp only; omega

/-- Column `s` of the probabilities block at point `t`: the probabilities of position `1024 * (t % 2) + s`. -/
theorem probs_apply (t : Fin cfg0.N) (v : Fin 1000) (s : Fin 1024) : (outsAt0 m c t.val t.isLt).2.1 (ix3 0 v s)
    = prob (lgAt m c ⟨t.val / 2, by have := pt_lt t; omega⟩ ⟨1024 * (t.val % 2) + s.val, by have := s.isLt; omega⟩) v := by
  have hs := s.isLt
  rw [probs_eq, halves_apply _ _ v ⟨s.val / 512, by omega⟩ ⟨s.val % 512, by omega⟩ s (by dsimp only; omega)]
  dsimp only
  by_cases h0 : s.val / 512 = 0
  · rw [if_pos h0, pay12_apply, lgs0]
    refine congrArg (fun q => prob (lgAt m c _ q) v) (Fin.ext ?_)
    dsimp only; omega
  · rw [if_neg h0, pay12_apply, lgs1]
    refine congrArg (fun q => prob (lgAt m c _ q) v) (Fin.ext ?_)
    dsimp only; omega

end Cert.KernelIdeal.Val

end
-- ==== Proof.Arrays.lean ====
/-
  What the three result arrays hold after the run: every logit, every probability, and the mean loss over the positions
  whose mask bit is set.
-/
module

public import proofs.«01_k».proof.Proof.Points

@[expose] public section

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Cert.Spec

/-! ## The sums over points are sums over positions -/

/-- A sum over 2048 positions is the sum of its four stretches of 512. -/
theorem sum_stretches (g : Fin 2048 → EReal) : ∑ s : Fin 2048, g s
    = ∑ q : Fin 4, ∑ l : Fin 512, g ⟨512 * q.val + l.val, by have := q.isLt; have := l.isLt; omega⟩ := by
  rw [← (finProdFinEquiv (m := 4) (n := 512)).sum_comp g, Fintype.sum_prod_type]
  refine Finset.sum_congr rfl fun q _ => Finset.sum_congr rfl fun l _ => congrArg g (Fin.ext ?_)
  show l.val + 512 * q.val = 512 * q.val + l.val
  omega

/-- The sum over the eight points is the sum over all positions of all rows. -/
theorem sum_points (f : Fin 4 → Fin 2048 → EReal) : ∑ x ∈ Finset.range 8, ptSum f x = ∑ i : Fin 4, ∑ s : Fin 2048, f i s := by
  have e : ∀ x : Fin 8, ptSum f x.val = half f x 0 + half f x 1 := fun x => by unfold ptSum; rw [dif_pos x.isLt]
  rw [Finset.sum_range, Fin.sum_univ_eight, Fin.sum_univ_four]
  simp only [sum_stretches, Fin.sum_univ_four]
  rw [e 0, e 1, e 2, e 3, e 4, e 5, e 6, e 7]
  unfold half
  simp only [add_assoc]
  rfl

variable (m : (ℓ : Loc nD τ sig) → Buf (Elt Ideal) ℓ) (ρ : Dev nD → PrngReg) (c : Dev nD)

/-! ## The arrays -/

/-- The block indices of the three output windows. -/
theorem out_facts : ∀ t : Fin cfg0.N, (win0_6.index t (0 : Fin 3) = t.val / 2 ∧ win0_6.index t (1 : Fin 3) = 0 ∧ win0_6.index t (2 : Fin 3) = t.val % 2)
    ∧ (win0_7.index t (0 : Fin 3) = t.val / 2 ∧ win0_7.index t (1 : Fin 3) = 0 ∧ win0_7.index t (2 : Fin 3) = t.val % 2)
    ∧ (win0_8.index t (0 : Fin 2) = 0 ∧ win0_8.index t (1 : Fin 2) = 0) :=
  (by decide +kernel : ∀ t : Fin grid0.N, (win0_6.index t (0 : Fin 3) = t.val / 2 ∧ win0_6.index t (1 : Fin 3) = 0 ∧ win0_6.index t (2 : Fin 3) = t.val % 2)
    ∧ (win0_7.index t (0 : Fin 3) = t.val / 2 ∧ win0_7.index t (1 : Fin 3) = 0 ∧ win0_7.index t (2 : Fin 3) = t.val % 2)
    ∧ (win0_8.index t (0 : Fin 2) = 0 ∧ win0_8.index t (1 : Fin 2) = 0))

/-- The logits, classes before positions. -/
def logitsT : Buf (Elt Ideal) ((c : Thread nD τ).loc main_v1_0) :=
  fun j : S4x1000x2048.Idx => lgAt m c (j 0) (j 2) (j 1)

/-- The probabilities, classes before positions. -/
def probsT : Buf (Elt Ideal) ((c : Thread nD τ).loc main_v1_1) :=
  fun j : S4x1000x2048.Idx => prob (lgAt m c (j 0) (j 2)) (j 1)

/-- The mean loss over the positions whose mask bit is set. -/
def meanLoss : EReal :=
  Ideal.div (∑ i : Fin 4, ∑ s : Fin 2048, lossTerm m c i s) (max (∑ i : Fin 4, ∑ s : Fin 2048, cntTerm m c i s) 1)

/-- The mean loss as a one-by-one array. -/
def loss11 : Buf (Elt Ideal) ((c : Thread nD τ).loc main_v1_2) := fun _ : S1x1.Idx => meanLoss m c

/-- What each point writes back of the logits. -/
theorem flushed6 (t : Fin cfg0.N) (hf : (cfg0.win 6).flush t = true) :
    (dats m 0 c).flushed 6 t = ((cfg0.win 6).blk t).view.read (Elt Ideal) (logitsT m c) := by
  obtain ⟨⟨h0, h1, h2⟩, -, -⟩ := out_facts t
  show (cfg0.win 6).cut (grid0.coords t) ((dats m 0 c).after 6 t) = _
  rw [after0_6]
  funext j
  rw [View.read_apply]
  have ej : j = (ix3 0 (j 1) (j 2) : S1x1000x1024.Idx) := by
    refine (eq_ix3 (n0 := 1) (n1 := 1000) (n2 := 1024) j).trans ?_
    congr 1
    exact Fin.ext (by have h : (j 0).val < 1 := (j 0).isLt; show (j 0).val = 0; omega)
  refine (show _ = (outsAt0 m c t.val t.isLt).1 j from rfl).trans ?_
  refine ((congrArg (outsAt0 m c t.val t.isLt).1 ej).trans (logits_apply m c t (j 1) (j 2))).trans ?_
  show _ = lgAt m c _ _ _
  congr 1 <;> apply Fin.ext
  · have h : (j 0).val < 1 := (j 0).isLt; show t.val / 2 = win0_6.index t 0 * 1 + 1 * (j 0).val; rw [h0]; omega
  · show 1024 * (t.val % 2) + (j 2).val = win0_6.index t 2 * 1024 + 1 * (j 2).val; rw [h2]; omega
  · show (j 1).val = win0_6.index t 1 * 1000 + 1 * (j 1).val; rw [h1]; omega

/-- What each point writes back of the probabilities. -/
theorem flushed7 (t : Fin cfg0.N) (hf : (cfg0.win 7).flush t = true) :
    (dats m 0 c).flushed 7 t = ((cfg0.win 7).blk t).view.read (Elt Ideal) (probsT m c) := by
  obtain ⟨-, ⟨h0, h1, h2⟩, -⟩ := out_facts t
  show (cfg0.win 7).cut (grid0.coords t) ((dats m 0 c).after 7 t) = _
  rw [after0_7]
  funext j
  rw [View.read_apply]
  have ej : j = (ix3 0 (j 1) (j 2) : S1x1000x1024.Idx) := by
    refine (eq_ix3 (n0 := 1) (n1 := 1000) (n2 := 1024) j).trans ?_
    congr 1
    exact Fin.ext (by have h : (j 0).val < 1 := (j 0).isLt; show (j 0).val = 0; omega)
  refine (show _ = (outsAt0 m c t.val t.isLt).2.1 j from rfl).trans ?_
  refine ((congrArg (outsAt0 m c t.val t.isLt).2.1 ej).trans (probs_apply m c t (j 1) (j 2))).trans ?_
  show _ = prob (lgAt m c _ _) _
  congr 1
  · congr 1 <;> apply Fin.ext
    · have h : (j 0).val < 1 := (j 0).isLt; show t.val / 2 = win0_7.index t 0 * 1 + 1 * (j 0).val; rw [h0]; omega
    · show 1024 * (t.val % 2) + (j 2).val = win0_7.index t 2 * 1024 + 1 * (j 2).val; rw [h2]; omega
  · apply Fin.ext; show (j 1).val = win0_7.index t 1 * 1000 + 1 * (j 1).val; rw [h1]; omega

/-- What the last point writes back of the loss. -/
theorem flushed8 (t : Fin cfg0.N) (hf : (cfg0.win 8).flush t = true) :
    (dats m 0 c).flushed 8 t = ((cfg0.win 8).blk t).view.read (Elt Ideal) (loss11 m c) := by
  show (cfg0.win 8).cut (grid0.coords t) ((dats m 0 c).after 8 t) = _
  rw [after0_8]
  funext j
  rw [View.read_apply]
  refine (show _ = (outsAt0 m c t.val t.isLt).2.2.1 j from rfl).trans ?_
  rw [loss_eq m c t ((flush0_8 t).mp hf), sum_points, sum_points]
  rfl

/-- The logits array after the run. -/
theorem final6 : (dats m 0 c).arrAt 6 cfg0.N = logitsT m c :=
  (dats m 0 c).arrAt_eq_of_cover 6 (logitsT m c) (flushed6 m c) fun i => by
    have h0 : (i 0 : Nat) < 4 := (i 0).isLt
    have h1 : (i 1 : Nat) < 1000 := (i 1).isLt
    have h2 : (i 2 : Nat) < 2048 := (i 2).isLt
    have hN : cfg0.N = 8 := N_0
    have hp : 2 * (i 0 : Nat) + (i 2 : Nat) / 1024 < cfg0.N := by omega
    refine ⟨⟨2 * (i 0 : Nat) + (i 2 : Nat) / 1024, hp⟩, flush0_6 _, ?_⟩
    obtain ⟨⟨e0, e1, e2⟩, -, -⟩ := out_facts ⟨2 * (i 0 : Nat) + (i 2 : Nat) / 1024, hp⟩
    show i ∈ ((View.whole main_v1_0).slice (win0_6.rect (⟨2 * (i 0 : Nat) + (i 2 : Nat) / 1024, hp⟩ : Fin cfg0.N))).set
    rw [View.set_slice_whole, Rect.mem_set_unit]
    intro a
    match a with
    | ⟨0, _⟩ => show win0_6.index ⟨2 * (i 0 : Nat) + (i 2 : Nat) / 1024, hp⟩ 0 * 1 ≤ (i 0 : Nat) ∧ (i 0 : Nat) < win0_6.index ⟨2 * (i 0 : Nat) + (i 2 : Nat) / 1024, hp⟩ 0 * 1 + 1
                rw [e0]; dsimp only; omega
    | ⟨1, _⟩ => show win0_6.index ⟨2 * (i 0 : Nat) + (i 2 : Nat) / 1024, hp⟩ 1 * 1000 ≤ (i 1 : Nat) ∧ (i 1 : Nat) < win0_6.index ⟨2 * (i 0 : Nat) + (i 2 : Nat) / 1024, hp⟩ 1 * 1000 + 1000
                rw [e1]; omega
    | ⟨2, _⟩ => show win0_6.index ⟨2 * (i 0 : Nat) + (i 2 : Nat) / 1024, hp⟩ 2 * 1024 ≤ (i 2 : Nat) ∧ (i 2 : Nat) < win0_6.index ⟨2 * (i 0 : Nat) + (i 2 : Nat) / 1024, hp⟩ 2 * 1024 + 1024
                rw [e2]; dsimp only; omega

/-- The probabilities array after the run. -/
theorem final7 : (dats m 0 c).arrAt 7 cfg0.N = probsT m c :=
  (dats m 0 c).arrAt_eq_of_cover 7 (probsT m c) (flushed7 m c) fun i => by
    have h0 : (i 0 : Nat) < 4 := (i 0).isLt
    have h1 : (i 1 : Nat) < 1000 := (i 1).isLt
    have h2 : (i 2 : Nat) < 2048 := (i 2).isLt
    have hN : cfg0.N = 8 := N_0
    have hp : 2 * (i 0 : Nat) + (i 2 : Nat) / 1024 < cfg0.N := by omega
    refine ⟨⟨2 * (i 0 : Nat) + (i 2 : Nat) / 1024, hp⟩, flush0_7 _, ?_⟩
    obtain ⟨-, ⟨e0, e1, e2⟩, -⟩ := out_facts ⟨2 * (i 0 : Nat) + (i 2 : Nat) / 1024, hp⟩
    show i ∈ ((View.whole main_v1_1).slice (win0_7.rect (⟨2 * (i 0 : Nat) + (i 2 : Nat) / 1024, hp⟩ : Fin cfg0.N))).set
    rw [View.set_slice_whole, Rect.mem_set_unit]
    intro a
    match a with
    | ⟨0, _⟩ => show win0_7.index ⟨2 * (i 0 : Nat) + (i 2 : Nat) / 1024, hp⟩ 0 * 1 ≤ (i 0 : Nat) ∧ (i 0 : Nat) < win0_7.index ⟨2 * (i 0 : Nat) + (i 2 : Nat) / 1024, hp⟩ 0 * 1 + 1
                rw [e0]; dsimp only; omega
    | ⟨1, _⟩ => show win0_7.index ⟨2 * (i 0 : Nat) + (i 2 : Nat) / 1024, hp⟩ 1 * 1000 ≤ (i 1 : Nat) ∧ (i 1 : Nat) < win0_7.index ⟨2 * (i 0 : Nat) + (i 2 : Nat) / 1024, hp⟩ 1 * 1000 + 1000
                rw [e1]; omega
    | ⟨2, _⟩ => show win0_7.index ⟨2 * (i 0 : Nat) + (i 2 : Nat) / 1024, hp⟩ 2 * 1024 ≤ (i 2 : Nat) ∧ (i 2 : Nat) < win0_7.index ⟨2 * (i 0 : Nat) + (i 2 : Nat) / 1024, hp⟩ 2 * 1024 + 1024
                rw [e2]; dsimp only; omega

/-- The loss array after the run. -/
theorem final8 : (dats m 0 c).arrAt 8 cfg0.N = loss11 m c :=
  (dats m 0 c).arrAt_eq_of_cover 8 (loss11 m c) (flushed8 m c) fun i => by
    have h0 : (i 0 : Nat) < 1 := (i 0).isLt
    have h1 : (i 1 : Nat) < 1 := (i 1).isLt
    have hN : cfg0.N = 8 := N_0
    have hp : 7 < cfg0.N := by omega
    refine ⟨⟨7, hp⟩, (flush0_8 _).mpr rfl, ?_⟩
    obtain ⟨-, -, e0, e1⟩ := out_facts ⟨7, hp⟩
    show i ∈ ((View.whole main_v1_2).slice (win0_8.rect (⟨7, hp⟩ : Fin cfg0.N))).set
    rw [View.set_slice_whole, Rect.mem_set_unit]
    intro a
    match a with
    | ⟨0, _⟩ => show win0_8.index ⟨7, hp⟩ 0 * 1 ≤ (i 0 : Nat) ∧ (i 0 : Nat) < win0_8.index ⟨7, hp⟩ 0 * 1 + 1
                rw [e0]; omega
    | ⟨1, _⟩ => show win0_8.index ⟨7, hp⟩ 1 * 1 ≤ (i 1 : Nat) ∧ (i 1 : Nat) < win0_8.index ⟨7, hp⟩ 1 * 1 + 1
                rw [e1]; omega

/-! ## The lines after the region -/

/-- The first result as the last lines leave it. -/
theorem tail2 : Pipeline.afterTail₀ cfgs (dats m) 0 (V0 m) [hostOps1] c main_v2
    = (transpose S4x2048x1000 [0, 2, 1] (logitsT m c : Vec Ideal S4x1000x2048 .f32) transposes_S4x1000x2048_S4x2048x1000_0_2_1 : Vec Ideal S4x2048x1000 .f32) := by
  have e := ((dats m 0 c).withArrays_arrAt launch₀0.sharedIn (V0 m c) (A_eq m c) 6).trans (final6 m c)
  unfold Pipeline.afterTail₀
  after_results
  exact congrArg (fun v : Vec Ideal S4x1000x2048 .f32 => transpose S4x2048x1000 [0, 2, 1] v transposes_S4x1000x2048_S4x2048x1000_0_2_1) e

/-- The second result as the last lines leave it. -/
theorem tail3 : Pipeline.afterTail₀ cfgs (dats m) 0 (V0 m) [hostOps1] c main_v3
    = (transpose S4x2048x1000 [0, 2, 1] (probsT m c : Vec Ideal S4x1000x2048 .f32) transposes_S4x1000x2048_S4x2048x1000_0_2_1 : Vec Ideal S4x2048x1000 .f32) := by
  have e := ((dats m 0 c).withArrays_arrAt launch₀0.sharedIn (V0 m c) (A_eq m c) 7).trans (final7 m c)
  unfold Pipeline.afterTail₀
  after_results
  exact congrArg (fun v : Vec Ideal S4x1000x2048 .f32 => transpose S4x2048x1000 [0, 2, 1] v transposes_S4x1000x2048_S4x2048x1000_0_2_1) e

/-- The third result as the last lines leave it. -/
theorem tail4 : Pipeline.afterTail₀ cfgs (dats m) 0 (V0 m) [hostOps1] c main_v4
    = (shapeCast S_ (loss11 m c : Vec Ideal S1x1 .f32) shapeCasts_S1x1_S_ : Vec Ideal S_ .f32) := by
  have e := ((dats m 0 c).withArrays_arrAt launch₀0.sharedIn (V0 m c) (A_eq m c) 8).trans (final8 m c)
  unfold Pipeline.afterTail₀
  after_results
  exact congrArg (fun v : Vec Ideal S1x1 .f32 => shapeCast S_ v shapeCasts_S1x1_S_) e

/-- The logits, positions before classes. -/
def resLogits : Buf (Elt Ideal) ((c : Thread nD τ).loc main_v2) := fun j : S4x2048x1000.Idx => lgAt m c (j 0) (j 1) (j 2)
/-- The probabilities, positions before classes. -/
def resProbs : Buf (Elt Ideal) ((c : Thread nD τ).loc main_v3) := fun j : S4x2048x1000.Idx => prob (lgAt m c (j 0) (j 1)) (j 2)
/-- The loss, a scalar. -/
def resLoss : Buf (Elt Ideal) ((c : Thread nD τ).loc main_v4) := fun _ : S_.Idx => meanLoss m c

/-- The run, read: the three results in closed form, the arguments unchanged. -/
theorem run_value : θ_run defs (onTc (τ := τ) (main (F := Ideal))) ⟨m, fun _ => 0, ρ⟩ fun r => ∀ c : Dev nD,
      r.2.mem ((c : Thread nD τ).loc main_v2) = resLogits m c
      ∧ r.2.mem ((c : Thread nD τ).loc main_v3) = resProbs m c
      ∧ r.2.mem ((c : Thread nD τ).loc main_v4) = resLoss m c :=
  (θ_run defs _ _).mono (fun _ h c => ⟨
      (((h c).2 main_v2 (Pipeline.mem_restRefs_of main_v2 (by decide) (by decide))).trans (tail2 m c)).trans (by
        funext j
        rw [eq_ix3 (n0 := 4) (n1 := 2048) (n2 := 1000) j]
        pointwise
        rfl),
      (((h c).2 main_v3 (Pipeline.mem_restRefs_of main_v3 (by decide) (by decide))).trans (tail3 m c)).trans (by
        funext j
        rw [eq_ix3 (n0 := 4) (n1 := 2048) (n2 := 1000) j]
        pointwise
        rfl),
      (((h c).2 main_v4 (Pipeline.mem_restRefs_of main_v4 (by decide) (by decide))).trans (tail4 m c)).trans rfl⟩)
    (run_main m ρ)

end Cert.KernelIdeal.Val

end
-- ==== Proof.RefValue.lean ====
/-
  What the reference computes, entry by entry, over the extended reals: the logits, the probabilities, and the mean loss
  over the positions whose mask bit is set.
-/
module

public import proofs.«01_k».proof.Proof.Gen.ReferenceIdeal.Read
public import proofs.«01_k».proof.Proof.Block
public import Idealize.ShloMosaic.Lib.Pointwise
public import Idealize.ShloMosaic.Lib.StableHlo.Predicate

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Cert.ReferenceIdeal.Read Cert.Spec

variable (x0 : Vec Ideal S4x2048x2048 .f32) (x1 : Vec Ideal S4x2048 .i32) (x2 : Vec Ideal S4x2048 .i1)
  (x3 : Vec Ideal S1000x2048 .f32) (x4 : Vec Ideal S1000 .f32)

/-- The logits of position `s` of batch row `i`. -/
def lgR (i : Fin 4) (s : Fin 2048) : Fin 1000 → EReal :=
  logit (fun v k => x3 (ix2 v k)) (fun v => x4 (ix1 v)) (fun k => x0 (ix3 i s k))

/-- The first result: the logits. -/
theorem v3_at (i : Fin 4) (s : Fin 2048) (v : Fin 1000) : val_main_v3 (F := Ideal) x0 x3 x4 (ix3 i s v) = lgR x0 x3 x4 i s v := by
  rw [val_main_v3_apply, val_main_v0_apply, val_main_v2_apply, val_main_v1_apply]
  unfold lgR logit
  show _ + _ = _ + _
  refine congrArg₂ _ (Finset.sum_congr rfl fun k _ => ?_) ?_
  · rw [mul_comm]
    refine congrArg₂ _ (congrArg x3 (funext fun a => ?_)) (congrArg x0 (funext fun a => ?_))
    · match a with
      | ⟨0, _⟩ => rfl
      | ⟨1, _⟩ => rfl
    · match a with
      | ⟨0, _⟩ => rfl
      | ⟨1, _⟩ => rfl
      | ⟨2, _⟩ => rfl
  · refine congrArg x4 (funext fun a => ?_)
    match a with
    | ⟨0, _⟩ => rfl

/-- The bottom word read as an extended real. -/
theorem bot_word' : Ideal.ofBits .f32 0xFF800000#32 = (⊥ : EReal) := by simp [Ideal.ofBits, Ideal.ieee]

/-- A maximum along the last of three axes, from the bottom word. -/
theorem max3 (y : Vec Ideal S4x2048x1000 .f32) (i : Fin 4) (s : Fin 2048) :
    Host.reduce (FloatOps.maximumf : Ideal .f32 → Ideal .f32 → Ideal .f32) y (val_main_cst (F := Ideal)) reducesTo_S4x2048x1000_S4x2048_d2 h_S_ (ix2 i s)
      = Finset.univ.fold max (⊥ : EReal) fun v : Fin 1000 => y (ix3 i s v) := by
  refine (Host.reduce_eq_fold (max : EReal → EReal → EReal) y (val_main_cst (F := Ideal)) reducesTo_S4x2048x1000_S4x2048_d2 h_S_ (ix2 i s)).trans ?_
  rw [Shape.ReducesTo.fold_fiber_r3_a2]
  rw [val_main_cst_apply, Ideal.ofBits_def, bot_word']
  rfl

/-- A maximum along the last of two axes, from the bottom word. -/
theorem max2 (y : Vec Ideal S8192x1000 .f32) (n : Fin 8192) :
    Host.reduce (FloatOps.maximumf : Ideal .f32 → Ideal .f32 → Ideal .f32) y (val_main_call2_cst (F := Ideal)) reducesTo_S8192x1000_S8192_d1 h_S_ (ix1 n)
      = Finset.univ.fold max (⊥ : EReal) fun v : Fin 1000 => y (ix2 n v) := by
  refine (Host.reduce_eq_fold (max : EReal → EReal → EReal) y (val_main_call2_cst (F := Ideal)) reducesTo_S8192x1000_S8192_d1 h_S_ (ix1 n)).trans ?_
  rw [Shape.ReducesTo.fold_fiber_r2_a1]
  rw [val_main_call2_cst_apply, Ideal.ofBits_def, bot_word']
  rfl

/-- The maximum the softmax subtracts. -/
theorem v6_at (i : Fin 4) (s : Fin 2048) : val_main_v6 (F := Ideal) x0 x3 x4 (ix2 i s) = top (lgR x0 x3 x4 i s) := by
  rw [val_main_v6_apply, val_main_v5_apply, val_main_cst_0_apply, Ideal.ofBits_def, bot_word']
  unfold val_main_v4
  rw [max3]
  simp only [v3_at]
  show max ⊥ _ = _
  rw [max_eq_right bot_le]
  rfl

/-- A logit less the maximum. -/
theorem v9_at (i : Fin 4) (s : Fin 2048) (v : Fin 1000) : val_main_v9 (F := Ideal) x0 x3 x4 (ix3 i s v)
    = lgR x0 x3 x4 i s v - top (lgR x0 x3 x4 i s) := by
  rw [val_main_v9_apply, val_main_v8_apply, val_main_v7_apply, v3_at,
    show idx_main_v7 (idx_main_v8 (ix3 i s v)) = ix2 i s from funext fun a => match a with
      | ⟨0, _⟩ => rfl
      | ⟨1, _⟩ => rfl, v6_at]
  rfl

/-- Its exponential. -/
theorem v10_at (i : Fin 4) (s : Fin 2048) (v : Fin 1000) : val_main_v10 (F := Ideal) x0 x3 x4 (ix3 i s v)
    = Ideal.exp (lgR x0 x3 x4 i s v - top (lgR x0 x3 x4 i s)) := by
  rw [val_main_v10_apply, v9_at]
  rfl

/-- The second result: the exponential over the sum of the exponentials. -/
theorem v14_at (i : Fin 4) (s : Fin 2048) (v : Fin 1000) : val_main_v14 (F := Ideal) x0 x3 x4 (ix3 i s v)
    = Ideal.div (Ideal.exp (lgR x0 x3 x4 i s v - top (lgR x0 x3 x4 i s))) (mass (lgR x0 x3 x4 i s)) := by
  rw [val_main_v14_apply, v10_at, val_main_v13_apply, val_main_v12_apply,
    show idx_main_v12 (idx_main_v13 (ix3 i s v)) = ix2 i s from funext fun a => match a with
      | ⟨0, _⟩ => rfl
      | ⟨1, _⟩ => rfl,
    val_main_v11_apply, val_main_cst_1_apply, Ideal.ofBits_def, Ideal.ofBits_zero_f32, zero_add]
  refine congrArg (Ideal.div _) ?_
  unfold mass
  refine Finset.sum_congr rfl fun k _ => ?_
  rw [← v10_at]
  refine congrArg _ (funext fun a => ?_)
  match a with
  | ⟨0, _⟩ => rfl
  | ⟨1, _⟩ => rfl
  | ⟨2, _⟩ => rfl

/-! ## The log-softmax over the flattened positions -/

/-- The batch row of flat position `n`. -/
abbrev rw' (n : Fin 8192) : Fin 4 := ⟨n.val / 2048, by have := n.isLt; omega⟩
/-- The position within its row of flat position `n`. -/
abbrev ps (n : Fin 8192) : Fin 2048 := ⟨n.val % 2048, by omega⟩

theorem v16_at (n : Fin 8192) (v : Fin 1000) : val_main_v16 (F := Ideal) x0 x3 x4 (ix2 n v) = lgR x0 x3 x4 (rw' n) (ps n) v := by
  have hv := v.isLt
  rw [val_main_v16_apply, ← v3_at]
  refine congrArg _ (funext fun a => Fin.ext ?_)
  match a with
  | ⟨0, _⟩ => show (n.val * 1000 + v.val) / 2048000 = n.val / 2048; omega
  | ⟨1, _⟩ => show (n.val * 1000 + v.val) / 1000 % 2048 = n.val % 2048; omega
  | ⟨2, _⟩ => show (n.val * 1000 + v.val) % 1000 = v.val; omega

theorem call2_v5_at (n : Fin 8192) (v : Fin 1000) : val_main_call2_v5 (F := Ideal) x0 x3 x4 (ix2 n v)
    = lgR x0 x3 x4 (rw' n) (ps n) v - top (lgR x0 x3 x4 (rw' n) (ps n)) := by
  rw [val_main_call2_v5_apply, v16_at, val_main_call2_v4_apply, val_main_call2_v3_apply,
    show idx_main_call2_v3 (idx_main_call2_v4 (ix2 n v)) = ix1 n from funext fun a => match a with | ⟨0, _⟩ => rfl,
    val_main_call2_v2_apply, val_main_call2_v1_apply, val_main_call2_cst_0_apply, Ideal.ofBits_def, bot_word']
  unfold val_main_call2_v0
  rw [max2]
  simp only [v16_at]
  show _ - max ⊥ _ = _
  rw [max_eq_right bot_le]
  rfl

/-- The log-softmax at a flat position. -/
theorem v21_at (n : Fin 8192) (v : Fin 1000) : val_main_v21 (F := Ideal) x0 x3 x4 (ix2 n v)
    = (lgR x0 x3 x4 (rw' n) (ps n) v - top (lgR x0 x3 x4 (rw' n) (ps n))) - Ideal.log (mass (lgR x0 x3 x4 (rw' n) (ps n))) := by
  rw [val_main_v21_apply, call2_v5_at, val_main_call2_v10_apply, val_main_call2_v9_apply, val_main_call2_v8_apply,
    show idx_main_call2_v8 (idx_main_call2_v10 (ix2 n v)) = ix1 n from funext fun a => match a with | ⟨0, _⟩ => rfl,
    val_main_call2_v7_apply, val_main_call2_cst_1_apply, Ideal.ofBits_def, Ideal.ofBits_zero_f32, zero_add]
  unfold mass
  refine congrArg (fun z : EReal => (lgR x0 x3 x4 (rw' n) (ps n) v - top (lgR x0 x3 x4 (rw' n) (ps n)) : EReal) - Ideal.log z) ?_
  refine Finset.sum_congr rfl fun k _ => ?_
  rw [show idx_main_call2_v7 (ix1 n) k = ix2 n k from funext fun a => match a with
      | ⟨0, _⟩ => rfl
      | ⟨1, _⟩ => rfl, val_main_call2_v6_apply, call2_v5_at]
  rfl

/-! ## The targets -/

/-- The target word the reference keeps at a flat position: the target where the mask bit is set, the ignored word elsewhere. -/
theorem v17_at (n : Fin 8192) : val_main_v17 (F := Ideal) x1 x2 (ix1 n)
    = Scalar.select (x2 (ix2 (rw' n) (ps n))) (x1 (ix2 (rw' n) (ps n))) 4294967196#32 := by
  rw [val_main_v17_apply, val_main_v15_apply, val_main_call0_v1_apply,
    show idx_main_v17 (ix1 n) = ix2 (rw' n) (ps n) from funext fun a => match a with
      | ⟨0, _⟩ => rfl
      | ⟨1, _⟩ => rfl]
  rfl

/-- Whether a flat position is counted. -/
theorem v19_at (n : Fin 8192) : val_main_v19 (F := Ideal) x1 x2 (ix1 n)
    = IntOp.cmpi .ne (val_main_v17 (F := Ideal) x1 x2 (ix1 n)) 4294967196#32 := by
  rw [val_main_v19_apply, val_main_v18_apply]
  rfl

/-- A position whose mask bit is clear is not counted. -/
theorem v19_clear (n : Fin 8192) (h : ¬ x2 (ix2 (rw' n) (ps n)) ≠ 0#1) : val_main_v19 (F := Ideal) x1 x2 (ix1 n) = 0#1 := by
  rw [v19_at, v17_at, not_not.mp h]
  rfl

theorem one_of_ne (b : BitVec 1) (h : b ≠ 0#1) : b = 1#1 := by
  revert h; revert b; decide

/-- The gather of the log-likelihoods at flat position `n`: the row's entry at the start word, read signed and clamped. -/
theorem gather_at (y : Vec Ideal S8192x1000 .f32) (idx : Vec Ideal S8192x1x1 .i32) (n : Fin 8192) (j : Fin 1) :
    Host.gather gather_S8192x1000_S8192x1x1_S8192x1_n_1_0_0_1_2_11 y idx (ix2 n j)
      = y (ix2 n ⟨min (idx (ix3 n j 0)).toInt.toNat 999, by omega⟩) := by
  unfold Host.gather
  refine congrArg y (funext fun a => Fin.ext ?_)
  have h01 : a = 0 ∨ a = 1 := by
    match a with
    | ⟨0, _⟩ => exact Or.inl rfl
    | ⟨1, _⟩ => exact Or.inr rfl
  show gather_S8192x1000_S8192x1x1_S8192x1_n_1_0_0_1_2_11.start (ix2 n j) idx a
    + gather_S8192x1000_S8192x1x1_S8192x1_n_1_0_0_1_2_11.batchCoord (ix2 n j) a
    + gather_S8192x1000_S8192x1x1_S8192x1_n_1_0_0_1_2_11.offCoord (ix2 n j) a = _
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x1000_S8192x1x1_S8192x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x1000_S8192x1x1_S8192x1_n_1_0_0_1_2_11.startIndexMap from List.mem_singleton.mpr rfl)]
    have hsi : gather_S8192x1000_S8192x1x1_S8192x1_n_1_0_0_1_2_11.siIdx (ix2 n j)
        ⟨List.idxOf (1 : Fin 2) gather_S8192x1000_S8192x1x1_S8192x1_n_1_0_0_1_2_11.startIndexMap,
          List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi]
    rfl

section Counted
variable (n : Fin 8192) (h : x2 (ix2 (rw' n) (ps n)) ≠ 0#1) (ht : (x1 (ix2 (rw' n) (ps n))).toNat < 1000)
include h

theorem v17_set : val_main_v17 (F := Ideal) x1 x2 (ix1 n) = x1 (ix2 (rw' n) (ps n)) := by
  rw [v17_at, one_of_ne _ h]
  rfl

include ht

/-- A position whose mask bit is set is counted, its target naming a class. -/
theorem v19_set : val_main_v19 (F := Ideal) x1 x2 (ix1 n) = 1#1 := by
  rw [v19_at, v17_set x1 x2 n h]
  have hne : x1 (ix2 (rw' n) (ps n)) ≠ 4294967196#32 := fun e => by
    rw [e] at ht; exact absurd ht (by decide)
  have h' : (x1 (ix2 (rw' n) (ps n)) != 4294967196#32) = true := by simpa using hne
  simp [IntOp.cmpi, h']

theorem v22_set (j : Fin 1) : val_main_v22 (F := Ideal) x1 x2 (ix2 n j) = x1 (ix2 (rw' n) (ps n)) := by
  rw [val_main_v22_apply, show idx_main_v22 (ix2 n j) = ix1 n from funext fun a => match a with | ⟨0, _⟩ => rfl,
    val_main_v20_apply, v19_set x1 x2 n h ht, v17_set x1 x2 n h]
  rfl

theorem call3_v4_set (j : Fin 1) : val_main_call3_v4 (F := Ideal) x1 x2 (ix2 n j) = x1 (ix2 (rw' n) (ps n)) := by
  rw [val_main_call3_v4_apply, val_main_call3_v1_apply, val_main_call3_v0_apply, v22_set x1 x2 n h ht]
  have e : IntOp.cmpi .slt (x1 (ix2 (rw' n) (ps n))) 0#32 = 0#1 := by
    rcases Decidable.em (IntOp.cmpi .slt (x1 (ix2 (rw' n) (ps n))) 0#32 = 0#1) with e | e
    · exact e
    · have := (Idealize.ShloMosaic.StableHlo.Predicate.slt_iff_toNat (a := x1 (ix2 (rw' n) (ps n))) (b := 0#32) (by omega) (by decide)).mp (one_of_ne _ e)
      exact absurd this (by simp)
  show Scalar.select (IntOp.cmpi .slt (x1 (ix2 (rw' n) (ps n))) 0#32) _ _ = _
  rw [e]
  rfl

theorem call3_v5_set (j k : Fin 1) : val_main_call3_v5 (F := Ideal) x1 x2 (ix3 n j k) = x1 (ix2 (rw' n) (ps n)) := by
  rw [val_main_call3_v5_apply, ← call3_v4_set x1 x2 n h ht 0]
  refine congrArg _ (funext fun a => Fin.ext ?_)
  have hj := j.isLt
  have hk := k.isLt
  match a with
  | ⟨0, _⟩ => show ((n.val * 1 + j.val) * 1 + k.val) / 1 = n.val; omega
  | ⟨1, _⟩ => rfl

/-- Both bounds of the target hold. -/
theorem call3_v11_set (j k : Fin 1) : val_main_call3_v11 (F := Ideal) x1 x2 (ix3 n j k) = 1#1 := by
  rw [val_main_call3_v11_apply, val_main_call3_v7_apply, val_main_call3_v10_apply, call3_v5_set x1 x2 n h ht,
    val_main_call3_v6_apply, val_main_call3_v9_apply, val_main_call3_v8_apply, val_main_call3_c_1_apply, val_main_call3_c_2_apply,
    (Idealize.ShloMosaic.StableHlo.Predicate.sge_iff_toNat (a := x1 (ix2 (rw' n) (ps n))) (b := 0#32) (by omega) (by decide)).mpr (by simp),
    (Idealize.ShloMosaic.StableHlo.Predicate.sle_iff_toNat (a := x1 (ix2 (rw' n) (ps n))) (b := 999#32) (by omega) (by decide)).mpr (by simp; omega)]
  rfl

theorem call3_v12_set (j : Fin 1) : val_main_call3_v12 (F := Ideal) x1 x2 (ix2 n j) = 1#1 := by
  unfold val_main_call3_v12
  rw [Host.reduce_eq_fold IntOp.andi, Shape.ReducesTo.fold_fiber_r3_a2]
  refine (congrArg (fun f => Finset.fold IntOp.andi _ f Finset.univ)
    (show _ = (fun _ : Fin 1 => (1#1 : BitVec 1)) from funext fun k => call3_v11_set x1 x2 n h ht j k)).trans ?_
  rfl

/-- The gathered entry: the log-softmax at the class the target names. -/
theorem call3_v13_set (j : Fin 1) : val_main_call3_v13 (F := Ideal) x0 x1 x2 x3 x4 (ix2 n j)
    = val_main_v21 (F := Ideal) x0 x3 x4 (ix2 n ⟨(x1 (ix2 (rw' n) (ps n))).toNat, ht⟩) := by
  have e := call3_v5_set x1 x2 n h ht j 0
  unfold val_main_call3_v13
  generalize val_main_v21 (F := Ideal) x0 x3 x4 = y
  generalize val_main_call3_v5 (F := Ideal) x1 x2 = idx at e ⊢
  generalize x1 (ix2 (rw' n) (ps n)) = t at ht e ⊢
  refine (gather_at y idx n j).trans (congrArg (fun q : Fin 1000 => y (ix2 n q)) (Fin.ext ?_))
  show min (idx (ix3 n j 0)).toInt.toNat 999 = t.toNat
  rw [e, Idealize.ShloMosaic.StableHlo.Predicate.toInt_eq_toNat_of_lt (by omega)]
  omega

/-- The term of a counted position: the negated log-softmax at its target. -/
theorem v26_set : val_main_v26 (F := Ideal) x0 x1 x2 x3 x4 (ix1 n)
    = -(((lgR x0 x3 x4 (rw' n) (ps n) ⟨(x1 (ix2 (rw' n) (ps n))).toNat, ht⟩ - top (lgR x0 x3 x4 (rw' n) (ps n)))
        - Ideal.log (mass (lgR x0 x3 x4 (rw' n) (ps n))) : EReal)) := by
  rw [val_main_v26_apply, v19_set x1 x2 n h ht, val_main_v25_apply, val_main_v24_apply,
    show idx_main_v24 (ix1 n) = ix2 n 0 from funext fun a => Fin.ext (by
      match a with
      | ⟨0, _⟩ => exact Nat.div_one _
      | ⟨1, _⟩ => rfl),
    val_main_v23_apply, call3_v12_set x1 x2 n h ht, call3_v13_set x0 x1 x2 x3 x4 n h ht, v21_at]
  rfl

end Counted

/-! ## The mean -/

/-- A position's term of the loss: the negated log-softmax at its target where the mask bit is set, zero elsewhere. -/
def lossR (i : Fin 4) (s : Fin 2048) : EReal :=
  if x2 (ix2 i s) ≠ 0#1 then
    -(((lgR x0 x3 x4 i s ⟨(x1 (ix2 i s)).toNat % 1000, Nat.mod_lt _ (by decide)⟩ - top (lgR x0 x3 x4 i s))
        - Ideal.log (mass (lgR x0 x3 x4 i s)) : EReal))
  else 0

/-- A position's term of the count: one where the mask bit is set, zero elsewhere. -/
def cntR (i : Fin 4) (s : Fin 2048) : EReal := if x2 (ix2 i s) ≠ 0#1 then 1 else 0

/-- A sum over the flat positions is the sum over the rows of the sums over their positions. -/
theorem sum_flat (g : Fin 4 → Fin 2048 → EReal) : ∑ n : Fin 8192, g (rw' n) (ps n) = ∑ i : Fin 4, ∑ s : Fin 2048, g i s := by
  rw [← (finProdFinEquiv (m := 4) (n := 2048)).sum_comp fun n : Fin 8192 => g (rw' n) (ps n), Fintype.sum_prod_type]
  refine Finset.sum_congr rfl fun i _ => Finset.sum_congr rfl fun s _ => ?_
  have hs := s.isLt
  have e : (finProdFinEquiv (i, s)).val = s.val + 2048 * i.val := rfl
  refine congrArg₂ g (Fin.ext ?_) (Fin.ext ?_)
  · show (finProdFinEquiv (i, s)).val / 2048 = i.val; omega
  · show (finProdFinEquiv (i, s)).val % 2048 = s.val; omega

/-- The third result: the sum of the loss terms over the count, the count at least one. -/
theorem v31_at (ht : ∀ (i : Fin 4) (s : Fin 2048), x2 (ix2 i s) ≠ 0#1 → (x1 (ix2 i s)).toNat < 1000) (j : S_.Idx) :
    val_main_v31 (F := Ideal) x0 x1 x2 x3 x4 j
      = Ideal.div (∑ i : Fin 4, ∑ s : Fin 2048, lossR x0 x1 x2 x3 x4 i s) (max (∑ i : Fin 4, ∑ s : Fin 2048, cntR x2 i s) 1) := by
  have e1 : ∀ n : Fin 8192, val_main_v26 (F := Ideal) x0 x1 x2 x3 x4 (ix1 n) = lossR x0 x1 x2 x3 x4 (rw' n) (ps n) := fun n => by
    unfold lossR
    by_cases h : x2 (ix2 (rw' n) (ps n)) ≠ 0#1
    · rw [if_pos h, v26_set x0 x1 x2 x3 x4 n h (ht _ _ h)]
      refine congrArg (fun q => -(((lgR x0 x3 x4 (rw' n) (ps n) q - top (lgR x0 x3 x4 (rw' n) (ps n)))
        - Ideal.log (mass (lgR x0 x3 x4 (rw' n) (ps n))) : EReal))) (Fin.ext ?_)
      exact (Nat.mod_eq_of_lt (ht _ _ h)).symm
    · rw [if_neg h, val_main_v26_apply, v19_clear x1 x2 n h, val_main_call4_v1_apply, val_main_call4_v0_apply,
        val_main_cst_4_apply, Ideal.ofBits_def, Ideal.ofBits_zero_f32]
      rfl
  have e2 : ∀ n : Fin 8192, val_main_v28 (F := Ideal) x1 x2 (ix1 n) = cntR x2 (rw' n) (ps n) := fun n => by
    unfold cntR
    rw [val_main_v28_apply]
    by_cases h : x2 (ix2 (rw' n) (ps n)) ≠ 0#1
    · rw [if_pos h, v19_set x1 x2 n h (ht _ _ h)]
      show (((1#1 : BitVec 1).toNat : ℝ) : EReal) = 1
      simp
    · rw [if_neg h, v19_clear x1 x2 n h]
      show (((0#1 : BitVec 1).toNat : ℝ) : EReal) = 0
      simp
  rw [val_main_v31_apply, val_main_v27_apply, val_main_v30_apply, val_main_v29_apply, val_main_cst_5_apply, val_main_cst_6_apply,
    val_main_cst_7_apply, Ideal.ofBits_def, Ideal.ofBits_def, Ideal.ofBits_zero_f32, Ideal.ofBits_one_f32, zero_add, zero_add,
    sum_idx1 (n0 := 8192), sum_idx1 (n0 := 8192)]
  simp only [e1, e2]
  rw [sum_flat (lossR x0 x1 x2 x3 x4), sum_flat (cntR x2)]
  rfl

end Cert.ReferenceIdeal.Val

end
-- ==== Proof.Algebra.lean ====
/-
  The equation between the kernel's spelling and the reference's, at a position whose logits are real numbers: the product
  with a reciprocal is the quotient, and log-sum-exp less the target's logit is the negated log-softmax.
-/
module

public import proofs.«01_k».proof.Proof.Block

@[expose] public section

noncomputable section

open Idealize.ShloMosaic

namespace Cert.Spec

/-- An extended real that is a real number. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

/-- A finite sum of real numbers, read in the extended reals. -/
theorem coe_sum {ι : Type} [Fintype ι] (f : ι → ℝ) : ((∑ i, f i : ℝ) : EReal) = ∑ i, (f i : EReal) := by
  induction (Finset.univ : Finset ι) using Finset.cons_induction with
  | empty => simp
  | cons a s ha ih => rw [Finset.sum_cons, Finset.sum_cons, EReal.coe_add, ih]

theorem IsReal.sum {ι : Type} [Fintype ι] (f : ι → EReal) (h : ∀ i, IsReal (f i)) : IsReal (∑ i, f i) := by
  choose g hg using h
  exact ⟨∑ i, g i, by rw [coe_sum]; exact Finset.sum_congr rfl fun i _ => hg i⟩

/-- Real weights, bias and features make real logits. -/
theorem logit_real (W : Fin 1000 → Fin 2048 → EReal) (b : Fin 1000 → EReal) (x : Fin 2048 → EReal)
    (hW : ∀ c k, IsReal (W c k)) (hb : ∀ c, IsReal (b c)) (hx : ∀ k, IsReal (x k)) (c : Fin 1000) : IsReal (logit W b x c) :=
  (IsReal.sum _ fun k => (hW c k).mul (hx k)).add (hb c)

/-- The greatest of nonempty-many real numbers, taken from the bottom, is a real number. -/
theorem fold_real {ι : Type} (s : Finset ι) (hs : s.Nonempty) (f : ι → EReal) (h : ∀ i, IsReal (f i)) : IsReal (s.fold max ⊥ f) := by
  induction hs using Finset.Nonempty.cons_induction with
  | singleton a => rw [Finset.fold_singleton, max_eq_left bot_le]; exact h a
  | cons a s ha hs ih =>
    rw [Finset.fold_cons]
    rcases max_choice (f a) (s.fold max ⊥ f) with e | e
    · rw [e]; exact h a
    · rw [e]; exact ih

section Real
variable (lg : Fin 1000 → EReal) (h : ∀ c, IsReal (lg c))
include h

theorem top_real : IsReal (top lg) := fold_real _ ⟨0, Finset.mem_univ _⟩ lg h

/-- The sum of the exponentials is a positive real number. -/
theorem mass_pos : ∃ r : ℝ, 0 < r ∧ mass lg = (r : EReal) := by
  obtain ⟨t, ht⟩ := top_real lg h
  choose g hg using h
  refine ⟨∑ c, Real.exp (g c - t), Finset.sum_pos (fun c _ => Real.exp_pos _) ⟨0, Finset.mem_univ _⟩, ?_⟩
  rw [coe_sum]
  unfold mass
  refine Finset.sum_congr rfl fun c _ => ?_
  rw [ht, hg c, ← EReal.coe_sub, Ideal.exp_coe]

/-- The exponential times the reciprocal of the sum is the exponential over the sum. -/
theorem prob_eq (c : Fin 1000) : prob lg c = Ideal.div (Ideal.exp (lg c - top lg)) (mass lg) := by
  obtain ⟨r, hr, e⟩ := mass_pos lg h
  unfold prob
  rw [e, Ideal.div_coe hr.ne', Ideal.div_coe hr.ne', one_mul]

/-- Log-sum-exp less the logit the target selects is the negated log-softmax at the target. -/
theorem nll_eq (t : BitVec 32) (ht : t.toNat < 1000) :
    nll lg t = -(((lg ⟨t.toNat % 1000, Nat.mod_lt _ (by decide)⟩ - top lg) - Ideal.log (mass lg) : EReal)) := by
  obtain ⟨r, hr, e⟩ := mass_pos lg h
  obtain ⟨q, hq⟩ := top_real lg h
  obtain ⟨l, hl⟩ := h ⟨t.toNat % 1000, Nat.mod_lt _ (by decide)⟩
  have es : (∑ c : Fin 1000, if BitVec.ofNat 32 c.val = t then lg c else 0) = lg ⟨t.toNat % 1000, Nat.mod_lt _ (by decide)⟩ := by
    refine (Finset.sum_congr rfl fun c _ => ?_).trans (Fintype.sum_ite_eq (⟨t.toNat % 1000, Nat.mod_lt _ (by decide)⟩ : Fin 1000) lg)
    have hc := c.isLt
    refine if_congr ?_ rfl rfl
    rw [Fin.ext_iff]
    show _ ↔ t.toNat % 1000 = c.val
    rw [Nat.mod_eq_of_lt ht]
    constructor
    · intro e; rw [← e, BitVec.toNat_ofNat]; exact Nat.mod_eq_of_lt (by omega)
    · intro e; rw [← e]; exact BitVec.ofNat_toNat 32 t |>.trans (by simp)
  unfold nll
  rw [es, e, hq, hl, Ideal.log_coe, if_neg (not_le.mpr hr)]
  rw [← EReal.coe_add, ← EReal.coe_sub, ← EReal.coe_sub, ← EReal.coe_sub, ← EReal.coe_neg]
  exact congrArg _ (by ring)

end Real

end Cert.Spec

end
-- ==== Proof.PreFacts.lean ====
/-
  What the precondition says: the features, weights and bias are real numbers, and a counted position's target is a class.
-/
module

public import proofs.«01_k».proof.Defs
public import proofs.«01_k».proof.Proof.Algebra
public import Idealize.ShloMosaic.Lib.Pointwise
public import Idealize.ShloMosaic.Lib.StableHlo.Predicate

@[expose] public section

noncomputable section

open Idealize.ShloMosaic

namespace Cert.Pre_finite_and_named

/-- The shape relations of the predicate. -/
theorem facts : Facts where
  bcast_S_S4x2048x2048 := by decide
  bcast_S_S4x2048 := by decide
  bcast_S_S1000x2048 := by decide
  bcast_S_S1000 := by decide

end Cert.Pre_finite_and_named

namespace Cert.Spec

/-- An extended real whose absolute value is below plus infinity is a real number. -/
theorem real_of_abs (x : EReal) (h : BitVec.ofBool (decide (max x (-x) < Ideal.ofBits .f32 0x7F800000#32)) = 1#1) : IsReal x := by
  rw [StableHlo.Predicate.ofBool_eq_one_iff, decide_eq_true_eq,
    show Ideal.ofBits .f32 0x7F800000#32 = ⊤ by simp [Ideal.ofBits, Ideal.ieee]] at h
  induction x using EReal.rec with
  | bot => simp at h
  | coe r => exact ⟨r, rfl⟩
  | top => simp at h

/-- A mask bit that is set, with the test of the target passed, leaves the target's word below the number of classes. -/
theorem class_of_test (t : BitVec 32) (k : BitVec 1) (hk : k ≠ 0#1)
    (h : IntOp.ori (~~~k) (IntOp.andi (IntOp.cmpi .sge t 0#32) (IntOp.cmpi .slt t 1000#32)) = 1#1) : t.toNat < 1000 := by
  have hk1 : k = 1#1 := by
    rcases BitVec.eq_zero_or_eq_one k with e | e
    · exact absurd e hk
    · exact e
  subst hk1
  have h' : IntOp.cmpi .sge t 0#32 = 1#1 ∧ IntOp.cmpi .slt t 1000#32 = 1#1 := by
    rcases BitVec.eq_zero_or_eq_one (IntOp.cmpi .sge t 0#32) with e | e <;>
    rcases BitVec.eq_zero_or_eq_one (IntOp.cmpi .slt t 1000#32) with f | f <;> rw [e, f] at h <;>
    first | exact ⟨e, f⟩ | exact absurd h (by decide)
  obtain ⟨h1, h2⟩ := h'
  unfold IntOp.cmpi at h1 h2
  rw [StableHlo.Predicate.ofBool_eq_one_iff] at h1 h2
  simp only [BitVec.sle, BitVec.slt, decide_eq_true_eq] at h1 h2
  rw [show (0#32 : BitVec 32).toInt = 0 from by decide] at h1
  rw [show (1000#32 : BitVec 32).toInt = 1000 from by decide] at h2
  have := BitVec.toInt_eq_toNat_cond t
  split at this <;> omega

section Decode
variable [hF : Cert.Pre_finite_and_named.Facts]
variable (m : (ℓ : Loc Cert.KernelIdeal.nD Cert.KernelIdeal.τ Cert.KernelIdeal.sig) → Buf (Elt Ideal) ℓ)
  (hm : Cert.Pre_KernelIdeal_finite_and_named m) (c : Dev Cert.KernelIdeal.nD)
include hm

/-- Every feature is a real number. -/
theorem features_real (j : Cert.KernelIdeal.S4x2048x2048.Idx) :
    IsReal (m ((c.tc : Thread Cert.KernelIdeal.nD Cert.KernelIdeal.τ).loc Cert.KernelIdeal.main_arg0) j) :=
  real_of_abs _ (congrFun (hm c).1 j)

/-- A position whose mask bit is set names a class. -/
theorem target_class (j : Cert.KernelIdeal.S4x2048.Idx)
    (h : m ((c.tc : Thread Cert.KernelIdeal.nD Cert.KernelIdeal.τ).loc Cert.KernelIdeal.main_arg2) j ≠ 0#1) :
    (m ((c.tc : Thread Cert.KernelIdeal.nD Cert.KernelIdeal.τ).loc Cert.KernelIdeal.main_arg1) j).toNat < 1000 :=
  class_of_test _ _ h (congrFun (hm c).2.1 j)

/-- Every weight is a real number. -/
theorem weights_real (j : Cert.KernelIdeal.S1000x2048.Idx) :
    IsReal (m ((c.tc : Thread Cert.KernelIdeal.nD Cert.KernelIdeal.τ).loc Cert.KernelIdeal.main_arg3) j) :=
  real_of_abs _ (congrFun (hm c).2.2.1 j)

/-- Every bias is a real number. -/
theorem bias_real (j : Cert.KernelIdeal.S1000.Idx) :
    IsReal (m ((c.tc : Thread Cert.KernelIdeal.nD Cert.KernelIdeal.τ).loc Cert.KernelIdeal.main_arg4) j) :=
  real_of_abs _ (congrFun (hm c).2.2.2 j)

end Decode

end Cert.Spec

end
-- ==== Proof.Equation.lean ====
/-
  The equation: on arguments the precondition admits, each result of the reference is the kernel's result.
-/
module

public import proofs.«01_k».proof.Proof.Arrays
public import proofs.«01_k».proof.Proof.RefValue
public import proofs.«01_k».proof.Proof.PreFacts

@[expose] public section

noncomputable section

open Idealize.ShloMosaic Idealize.ShloMosaic.TcCoe

namespace Cert.Spec

open Cert.KernelIdeal Cert.KernelIdeal.Val Cert.ReferenceIdeal.Read

section Equal
variable [hF : Cert.Pre_finite_and_named.Facts]
variable (m : (ℓ : Loc Cert.KernelIdeal.nD Cert.KernelIdeal.τ Cert.KernelIdeal.sig) → Buf (Elt Ideal) ℓ)
  (hm : Cert.Pre_KernelIdeal_finite_and_named m) (c : Dev Cert.KernelIdeal.nD)

omit hF in
/-- The reference's first result is the kernel's logits, whatever the arguments. -/
theorem logits_equal : val_main_v3 (F := Ideal) (aX m c) (aW m c) (aB m c) = resLogits m c := by
  funext j
  rw [eq_ix3 j]
  exact Cert.ReferenceIdeal.Val.v3_at (aX m c) (aW m c) (aB m c) (j 0) (j 1) (j 2)

include hm

/-- Every logit is a real number. -/
theorem lgAt_real (i : Fin 4) (s : Fin 2048) (v : Fin 1000) : IsReal (lgAt m c i s v) :=
  logit_real _ _ _ (fun _ _ => weights_real m hm c _) (fun _ => bias_real m hm c _) (fun _ => features_real m hm c _) v

/-- The reference's second result is the kernel's probabilities. -/
theorem probs_equal : val_main_v14 (F := Ideal) (aX m c) (aW m c) (aB m c) = resProbs m c := by
  funext j
  rw [eq_ix3 j]
  exact (Cert.ReferenceIdeal.Val.v14_at (aX m c) (aW m c) (aB m c) (j 0) (j 1) (j 2)).trans
    (prob_eq (lgAt m c (j 0) (j 1)) (lgAt_real m hm c (j 0) (j 1)) (j 2)).symm

/-- The two spellings of a position's loss term agree. -/
theorem lossTerm_equal (i : Fin 4) (s : Fin 2048) :
    Cert.ReferenceIdeal.Val.lossR (aX m c) (aT m c) (aM m c) (aW m c) (aB m c) i s = lossTerm m c i s := by
  unfold Cert.ReferenceIdeal.Val.lossR lossTerm
  by_cases h : aM m c (ix2 i s) ≠ 0#1
  · rw [if_pos h, if_pos h]
    exact (nll_eq (lgAt m c i s) (lgAt_real m hm c i s) (aT m c (ix2 i s)) (target_class m hm c (ix2 i s) h)).symm
  · rw [if_neg h, if_neg h]

/-- The reference's third result is the kernel's mean loss. -/
theorem loss_equal : val_main_v31 (F := Ideal) (aX m c) (aT m c) (aM m c) (aW m c) (aB m c) = resLoss m c := by
  funext j
  refine (Cert.ReferenceIdeal.Val.v31_at (aX m c) (aT m c) (aM m c) (aW m c) (aB m c)
    (fun i s h => target_class m hm c (ix2 i s) h) j).trans ?_
  simp only [lossTerm_equal m hm c]
  rfl

end Equal

end Cert.Spec

end
-- ==== Proof.lean ====
/-
  The certificate, assembled: the three programs run and leave their arguments alone, the idealization rewrites nothing, and on
  arguments the precondition admits the kernel's three results are the reference's (the mathematics is in Proof/).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The compiled kernel runs, leaves its arguments alone and ends with every counter at zero. -/
theorem frame_kernel : Cert.quiescent_Kernel (hKernel := Cert.Kernel.Gen.facts) := fun m ρ _ => Cert.Kernel.Gen.frame m ρ

/-- The idealized kernel does too. -/
theorem frame_ideal : Cert.quiescent_KernelIdeal (hKernelIdeal := Cert.KernelIdeal.Gen.facts) :=
  fun m ρ _ => Cert.KernelIdeal.Gen.frame (F := Ideal) m ρ

/-- The reference runs, leaves its arguments alone and, declaring no semaphore, ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- From agreeing arguments the precondition admits, the idealized kernel and the reference end with equal logits, probabilities
    and mean loss, their arguments unchanged. -/
theorem equal : Cert.algebraic_KernelIdeal_ReferenceIdeal_pre_finite_and_named (hKernelIdeal := Cert.KernelIdeal.Gen.facts)
    (hReferenceIdeal := Cert.ReferenceIdeal.Gen.facts) (hPre_finite_and_named := Cert.Pre_finite_and_named.facts) := by
  intro m g m' g' hm hargs
  refine ⟨Cert.KernelIdeal.Val.resLogits m, Cert.KernelIdeal.Val.resProbs m, Cert.KernelIdeal.Val.resLoss m, ?_, ?_⟩
  · exact (θ_run Cert.KernelIdeal.defs _ _).mono (fun r h c => ⟨(h.1 c).1, (h.1 c).2.1, (h.1 c).2.2, h.2 c⟩)
      (θ_run_and (Cert.KernelIdeal.Val.run_value m g) (Cert.KernelIdeal.Gen.unchanged (F := Ideal) m g))
  · refine (θ_run Cert.ReferenceIdeal.defs _ _).mono (fun r h c => ?_) (Cert.ReferenceIdeal.Value.run (F := Ideal) m' g')
    obtain ⟨e0, e1, e2, e3, e4⟩ := hargs c
    obtain ⟨h0, h1, h2, h3⟩ := h c
    refine ⟨h0.trans ?_, h1.trans ?_, h2.trans ?_, h3⟩
    · refine (Cert.ReferenceIdeal.Read.val_main_v3_eq (F := Ideal) _ _ _).trans ?_
      rw [e0, e3, e4]
      exact Cert.Spec.logits_equal m c
    · refine (Cert.ReferenceIdeal.Read.val_main_v14_eq (F := Ideal) _ _ _).trans ?_
      rw [e0, e3, e4]
      exact Cert.Spec.probs_equal (hF := Cert.Pre_finite_and_named.facts) m hm c
    · refine (Cert.ReferenceIdeal.Read.val_main_v31_eq (F := Ideal) m' c).trans ?_
      rw [e0, e1, e2, e3, e4]
      exact Cert.Spec.loss_equal (hF := Cert.Pre_finite_and_named.facts) m hm c

/-- Everything the certificate claims. -/
theorem claim : Cert.Claim := ⟨Cert.Kernel.Gen.facts, Cert.KernelIdeal.Gen.facts, Cert.ReferenceIdeal.Gen.facts,
  Cert.Pre_finite_and_named.facts, frame_kernel, frame_ideal, fun m ρ _ => frame_ideal m ρ trivial,
  frame_reference, fun m ρ _ => frame_reference m ρ trivial, trivial, equal⟩

end Cert.Proof

end
